-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S4x1536x5120 : Shape := ⟨3, ![4, 1536, 5120]⟩
abbrev S576x5120 : Shape := ⟨2, ![576, 5120]⟩
abbrev S5x40 : Shape := ⟨2, ![5, 40]⟩
abbrev S512 : Shape := ⟨1, ![512]⟩
abbrev S_ : Shape := ⟨0, ![]⟩

class Facts : Prop where
  bcast_S_S4x1536x5120 : S_.BroadcastsInDim S4x1536x5120 (![] : Fin 0 → Fin S4x1536x5120.rank)

variable [Facts]

def fn {F : FTy → Type} [FloatOps F] (main_arg0 : FVec F S4x1536x5120 .bf16) (main_arg1 : FVec F S576x5120 .fp8e4m3) (main_arg2 : FVec F S5x40 .f32) (main_arg3 : FVec F S512 .bf16) : IVec S4x1536x5120 1 :=
  let main_v0 : FVec F S4x1536x5120 .bf16 := Host.absf main_arg0
  let main_cst : FVec F S_ .bf16 := constant S_ .bf16 0x7F7F#16
  let main_v1 : FVec F S4x1536x5120 .bf16 := broadcastInDim S4x1536x5120 ![] bcast_S_S4x1536x5120 main_cst
  let main_v2 : IVec S4x1536x5120 1 := cmpf .ole main_v0 main_v1
  main_v2
-- ==== Kernel.lean ====
abbrev S4x1536x5120 : Shape := ⟨3, ![4, 1536, 5120]⟩
abbrev S576x5120 : Shape := ⟨2, ![576, 5120]⟩
abbrev S5x40 : Shape := ⟨2, ![5, 40]⟩
abbrev S512 : Shape := ⟨1, ![512]⟩
abbrev S6144x5120 : Shape := ⟨2, ![6144, 5120]⟩
abbrev S1x512 : Shape := ⟨2, ![1, 512]⟩
abbrev S6144x512 : Shape := ⟨2, ![6144, 512]⟩
abbrev S6144x64 : Shape := ⟨2, ![6144, 64]⟩
abbrev S6144x40 : Shape := ⟨2, ![6144, 40]⟩
abbrev S512x5120 : Shape := ⟨2, ![512, 5120]⟩
abbrev S512x512 : Shape := ⟨2, ![512, 512]⟩
abbrev S512x64 : Shape := ⟨2, ![512, 64]⟩
abbrev S512x40 : Shape := ⟨2, ![512, 40]⟩
abbrev S1x1 : Shape := ⟨2, ![1, 1]⟩
abbrev S128x128 : Shape := ⟨2, ![128, 128]⟩
abbrev S64x128 : Shape := ⟨2, ![64, 128]⟩
abbrev S512x128 : Shape := ⟨2, ![512, 128]⟩
abbrev S512x1 : Shape := ⟨2, ![512, 1]⟩
abbrev S576x512 : Shape := ⟨2, ![576, 512]⟩
abbrev S64x512 : Shape := ⟨2, ![64, 512]⟩

abbrev nBuf : Space → Nat
  | .hbm => 10
  | .vmem => 14
  | .smem => 1
  | _ => 0

abbrev bufTy : (tb : Table) → Fin (tcTables nBuf tb) → BufTy
  | .hbm, ⟨0, _⟩ => ⟨S4x1536x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S6144x5120, .bf16⟩
  | .hbm, ⟨5, _⟩ => ⟨S1x512, .bf16⟩
  | .hbm, ⟨6, _⟩ => ⟨S6144x512, .bf16⟩
  | .hbm, ⟨7, _⟩ => ⟨S6144x64, .bf16⟩
  | .hbm, ⟨8, _⟩ => ⟨S6144x5120, .fp8e4m3⟩
  | .hbm, ⟨9, _⟩ => ⟨S6144x40, .f32⟩
  | .local _ .vmem, ⟨0, _⟩ => ⟨S512x5120, .bf16⟩
  | .local _ .vmem, ⟨1, _⟩ => ⟨S512x5120, .bf16⟩
  | .local _ .vmem, ⟨2, _⟩ => ⟨S576x5120, .fp8e4m3⟩
  | .local _ .vmem, ⟨3, _⟩ => ⟨S1x512, .bf16⟩
  | .local _ .vmem, ⟨4, _⟩ => ⟨S512x512, .bf16⟩
  | .local _ .vmem, ⟨5, _⟩ => ⟨S512x512, .bf16⟩
  | .local _ .vmem, ⟨6, _⟩ => ⟨S512x64, .bf16⟩
  | .local _ .vmem, ⟨7, _⟩ => ⟨S512x64, .bf16⟩
  | .local _ .vmem, ⟨8, _⟩ => ⟨S512x5120, .fp8e4m3⟩
  | .local _ .vmem, ⟨9, _⟩ => ⟨S512x5120, .fp8e4m3⟩
  | .local _ .vmem, ⟨10, _⟩ => ⟨S512x40, .f32⟩
  | .local _ .vmem, ⟨11, _⟩ => ⟨S512x40, .f32⟩
  | .local _ .vmem, ⟨12, _⟩ => ⟨S576x5120, .bf16⟩
  | .local _ .vmem, ⟨13, _⟩ => ⟨S512x5120, .bf16⟩
  | .local _ .smem, ⟨0, _⟩ => ⟨S5x40, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
variable {F : FTy → Type} [FloatOps F] [Named F]
def κ : String → Option EReal := fun
  | "ln_2" => some ((Real.log 2 : ℝ) : EReal)
  | _ => none
-- ==== Reference.lean ====
abbrev S4x1536x5120 : Shape := ⟨3, ![4, 1536, 5120]⟩
abbrev S576x5120 : Shape := ⟨2, ![576, 5120]⟩
abbrev S5x40 : Shape := ⟨2, ![5, 40]⟩
abbrev S512 : Shape := ⟨1, ![512]⟩
abbrev S6144x512 : Shape := ⟨2, ![6144, 512]⟩
abbrev S6144x64 : Shape := ⟨2, ![6144, 64]⟩
abbrev S6144x5120 : Shape := ⟨2, ![6144, 5120]⟩
abbrev S6144x40 : Shape := ⟨2, ![6144, 40]⟩
abbrev S6144x40x128 : Shape := ⟨3, ![6144, 40, 128]⟩
abbrev S6144x40x1 : Shape := ⟨3, ![6144, 40, 1]⟩
abbrev S5x1x40 : Shape := ⟨3, ![5, 1, 40]⟩
abbrev S5x128x40 : Shape := ⟨3, ![5, 128, 40]⟩
abbrev S640x40 : Shape := ⟨2, ![640, 40]⟩
abbrev S640x40x1 : Shape := ⟨3, ![640, 40, 1]⟩
abbrev S640x40x128 : Shape := ⟨3, ![640, 40, 128]⟩
abbrev S640x5120 : Shape := ⟨2, ![640, 5120]⟩
abbrev S6144x576 : Shape := ⟨2, ![6144, 576]⟩
abbrev S6144 : Shape := ⟨1, ![6144]⟩
abbrev S6144x1 : Shape := ⟨2, ![6144, 1]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x1536x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S6144x512, .bf16⟩
  | .hbm, ⟨5, _⟩ => ⟨S6144x64, .bf16⟩
  | .hbm, ⟨6, _⟩ => ⟨S6144x5120, .fp8e4m3⟩
  | .hbm, ⟨7, _⟩ => ⟨S6144x40, .f32⟩
  | .local _ .vmem, ⟨0, _⟩ => ⟨S4x1536x5120, .bf16⟩
  | .local _ .vmem, ⟨1, _⟩ => ⟨S576x5120, .fp8e4m3⟩
  | .local _ .vmem, ⟨2, _⟩ => ⟨S5x40, .f32⟩
  | .local _ .vmem, ⟨3, _⟩ => ⟨S512, .bf16⟩
  | .local _ .vmem, ⟨4, _⟩ => ⟨S6144x512, .bf16⟩
  | .local _ .vmem, ⟨5, _⟩ => ⟨S6144x64, .bf16⟩
  | .local _ .vmem, ⟨6, _⟩ => ⟨S6144x5120, .fp8e4m3⟩
  | .local _ .vmem, ⟨7, _⟩ => ⟨S6144x40, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Consts.lean ====
/- The float constants that the two programs spell, as the extended reals that their patterns denote at `Ideal`: powers of
   two, and the few others. -/
module

public import Idealize.ShloMosaic.PureOps.Ideal

@[expose] public section

noncomputable section

namespace Cert.Consts

open Idealize.ShloMosaic

/-- The power of two of exponent `z`. -/
def p (z : ℤ) : EReal := (((2 : ℝ) ^ z : ℝ) : EReal)

theorem p_mul (a b : ℤ) : p a * p b = p (a + b) := by
  unfold p
  rw [← EReal.coe_mul, zpow_add₀ (by norm_num)]

theorem b_0100 : Ideal.ofBits .bf16 0x0100#16 = p (-125) := by
  simp [p, Ideal.ofBits, Ideal.ieee, -EReal.coe_mul, -EReal.coe_pow]; norm_num

theorem b_7E00 : Ideal.ofBits .bf16 0x7E00#16 = p (125) := by
  simp [p, Ideal.ofBits, Ideal.ieee, -EReal.coe_mul, -EReal.coe_pow]; norm_num

theorem b_7C80 : Ideal.ofBits .bf16 0x7C80#16 = p (122) := by
  simp [p, Ideal.ofBits, Ideal.ieee, -EReal.coe_mul, -EReal.coe_pow]; norm_num

theorem b_5E00 : Ideal.ofBits .bf16 0x5E00#16 = p (61) := by
  simp [p, Ideal.ofBits, Ideal.ieee, -EReal.coe_mul, -EReal.coe_pow]; norm_num

theorem b_4F00 : Ideal.ofBits .bf16 0x4F00#16 = p (31) := by
  simp [p, Ideal.ofBits, Ideal.ieee, -EReal.coe_mul, -EReal.coe_pow]; norm_num

theorem b_4780 : Ideal.ofBits .bf16 0x4780#16 = p (16) := by
  simp [p, Ideal.ofBits, Ideal.ieee, -EReal.coe_mul, -EReal.coe_pow]; norm_num

theorem b_4380 : Ideal.ofBits .bf16 0x4380#16 = p (8) := by
  simp [p, Ideal.ofBits, Ideal.ieee, -EReal.coe_mul, -EReal.coe_pow]; norm_num

theorem b_4180 : Ideal.ofBits .bf16 0x4180#16 = p (4) := by
  simp [p, Ideal.ofBits, Ideal.ieee, -EReal.coe_mul, -EReal.coe_pow]; norm_num

theorem b_4080 : Ideal.ofBits .bf16 0x4080#16 = p (2) := by
  simp [p, Ideal.ofBits, Ideal.ieee, -EReal.coe_mul, -EReal.coe_pow]; norm_num

theorem b_4000 : Ideal.ofBits .bf16 0x4000#16 = p (1) := by
  simp [p, Ideal.ofBits, Ideal.ieee, -EReal.coe_mul, -EReal.coe_pow]; norm_num

theorem b_0280 : Ideal.ofBits .bf16 0x0280#16 = p (-122) := by
  simp [p, Ideal.ofBits, Ideal.ieee, -EReal.coe_mul, -EReal.coe_pow]; norm_num

theorem b_2100 : Ideal.ofBits .bf16 0x2100#16 = p (-61) := by
  simp [p, Ideal.ofBits, Ideal.ieee, -EReal.coe_mul, -EReal.coe_pow]; norm_num

theorem b_3000 : Ideal.ofBits .bf16 0x3000#16 = p (-31) := by
  simp [p, Ideal.ofBits, Ideal.ieee, -EReal.coe_mul, -EReal.coe_pow]; norm_num

theorem b_3780 : Ideal.ofBits .bf16 0x3780#16 = p (-16) := by
  simp [p, Ideal.ofBits, Ideal.ieee, -EReal.coe_mul, -EReal.coe_pow]; norm_num

theorem b_3B80 : Ideal.ofBits .bf16 0x3B80#16 = p (-8) := by
  simp [p, Ideal.ofBits, Ideal.ieee, -EReal.coe_mul, -EReal.coe_pow]; norm_num

theorem b_3D80 : Ideal.ofBits .bf16 0x3D80#16 = p (-4) := by
  simp [p, Ideal.ofBits, Ideal.ieee, -EReal.coe_mul, -EReal.coe_pow]; norm_num

theorem b_3E80 : Ideal.ofBits .bf16 0x3E80#16 = p (-2) := by
  simp [p, Ideal.ofBits, Ideal.ieee, -EReal.coe_mul, -EReal.coe_pow]; norm_num

theorem b_3F00 : Ideal.ofBits .bf16 0x3F00#16 = p (-1) := by
  simp [p, Ideal.ofBits, Ideal.ieee, -EReal.coe_mul, -EReal.coe_pow]; norm_num

theorem b_3F80 : Ideal.ofBits .bf16 0x3F80#16 = p (0) := by
  simp [p, Ideal.ofBits, Ideal.ieee, -EReal.coe_mul, -EReal.coe_pow]; norm_num

theorem b_4360 : Ideal.ofBits .bf16 0x4360#16 = ((224 : ℝ) : EReal) := by
  simp [Ideal.ofBits, Ideal.ieee, -EReal.coe_mul, -EReal.coe_pow]

theorem b_04E0 : Ideal.ofBits .bf16 0x04E0#16 = ((448 * (2 : ℝ) ^ (-126 : ℤ) : ℝ) : EReal) := by
  simp [Ideal.ofBits, Ideal.ieee, -EReal.coe_mul, -EReal.coe_pow]; norm_num

theorem b_7F7F : Ideal.ofBits .bf16 0x7F7F#16 = ((255 * (2 : ℝ) ^ (120 : ℤ) : ℝ) : EReal) := by
  simp [Ideal.ofBits, Ideal.ieee, -EReal.coe_mul, -EReal.coe_pow]

theorem f_448 : Ideal.ofBits .f32 0x43E00000#32 = ((448 : ℝ) : EReal) := by
  simp [Ideal.ofBits, Ideal.ieee, -EReal.coe_mul, -EReal.coe_pow]; norm_num

theorem f_tiny : Ideal.ofBits .f32 0x00800000#32 = (((2 : ℝ) ^ (-126 : ℤ) : ℝ) : EReal) := by
  simp [Ideal.ofBits, Ideal.ieee, -EReal.coe_mul, -EReal.coe_pow]; norm_num

theorem f_512 : Ideal.ofBits .f32 0x44000000#32 = ((512 : ℝ) : EReal) := by
  simp [Ideal.ofBits, Ideal.ieee, -EReal.coe_mul, -EReal.coe_pow]; norm_num

theorem f_512inv : Ideal.ofBits .f32 0x3B000000#32 = ((1 / 512 : ℝ) : EReal) := by
  simp [Ideal.ofBits, Ideal.ieee, -EReal.coe_mul, -EReal.coe_pow]; norm_num

theorem f_one : Ideal.ofBits .f32 0x3F800000#32 = ((1 : ℝ) : EReal) := by
  simp [Ideal.ofBits, Ideal.ieee, -EReal.coe_mul, -EReal.coe_pow]; norm_num

theorem b_bot : Ideal.ofBits .bf16 0xFF80#16 = ⊥ := by
  simp [Ideal.ofBits, Ideal.ieee]

end Cert.Consts

end
-- ==== Proof.Search.lean ====
/- The two ways to the scale of a group, over the reals: the search by eight conditional doublings, and the exponent
   `floor (log₂ (a / 448)) + 1`. Both give the least power of two above `a / 448`, and its reciprocal. -/
module

public import proofs.«01_k».proof.Proof.Consts
public import Mathlib.Analysis.SpecialFunctions.Pow.Real

@[expose] public section

noncomputable section

namespace Cert.Search

open Idealize.ShloMosaic Cert.Consts

/-- The scale after one step: `s k` if `a` is at least 224 times that, else `s` still. -/
def stepS (a s k : EReal) : EReal := if s * k * ((224 : ℝ) : EReal) ≤ a then s * k else s

/-- Its reciprocal after one step. -/
def stepI (a s i k k' : EReal) : EReal := if s * k * ((224 : ℝ) : EReal) ≤ a then i * k' else i

/-- One step's question at powers of two: it says whether the exponent that is sought is at least the raised one. -/
theorem up_iff (a : ℝ) (e e0 k : ℤ) (h1 : 448 * (2 : ℝ) ^ (e - 1) ≤ a) (h2 : a < 448 * (2 : ℝ) ^ e) :
    p e0 * p k * ((224 : ℝ) : EReal) ≤ (a : EReal) ↔ e0 + k ≤ e := by
  rw [p_mul]
  unfold p
  rw [← EReal.coe_mul, EReal.coe_le_coe_iff]
  have h224 : (2 : ℝ) ^ (e0 + k) * 224 = 448 * (2 : ℝ) ^ (e0 + k - 1) := by
    rw [zpow_sub_one₀ (by norm_num)]; ring
  rw [h224]
  constructor
  · intro h
    by_contra hc
    have : (2 : ℝ) ^ e ≤ (2 : ℝ) ^ (e0 + k - 1) := zpow_le_zpow_right₀ (by norm_num) (by omega)
    linarith
  · intro h
    have : (2 : ℝ) ^ (e0 + k - 1) ≤ (2 : ℝ) ^ (e - 1) := zpow_le_zpow_right₀ (by norm_num) (by omega)
    linarith

/-- One step keeps the exponent that is sought within reach of the steps that remain (`r` is the sum of those). -/
theorem step (a : ℝ) (e k r : ℤ) (h1 : 448 * (2 : ℝ) ^ (e - 1) ≤ a) (h2 : a < 448 * (2 : ℝ) ^ e) (hk : k ≤ r + 1)
    (s i : EReal) (h : ∃ e0, s = p e0 ∧ i = p (-e0) ∧ e0 ≤ e ∧ e ≤ e0 + (k + r)) :
    ∃ e0, stepS a s (p k) = p e0 ∧ stepI a s i (p k) (p (-k)) = p (-e0) ∧ e0 ≤ e ∧ e ≤ e0 + r := by
  obtain ⟨e0, rfl, rfl, h3, h4⟩ := h
  unfold stepS stepI
  by_cases hu : e0 + k ≤ e
  · rw [if_pos ((up_iff a e e0 k h1 h2).2 hu), if_pos ((up_iff a e e0 k h1 h2).2 hu), p_mul, p_mul]
    exact ⟨e0 + k, rfl, by congr 1; ring, hu, by omega⟩
  · rw [if_neg (fun hc => hu ((up_iff a e e0 k h1 h2).1 hc)), if_neg (fun hc => hu ((up_iff a e e0 k h1 h2).1 hc))]
    exact ⟨e0, rfl, rfl, h3, by omega⟩

def s1 (a : EReal) := stepS a (p (-125)) (p 122)
def s2 (a : EReal) := stepS a (s1 a) (p 61)
def s3 (a : EReal) := stepS a (s2 a) (p 31)
def s4 (a : EReal) := stepS a (s3 a) (p 16)
def s5 (a : EReal) := stepS a (s4 a) (p 8)
def s6 (a : EReal) := stepS a (s5 a) (p 4)
def s7 (a : EReal) := stepS a (s6 a) (p 2)
def s8 (a : EReal) := stepS a (s7 a) (p 1)

def i1 (a : EReal) := stepI a (p (-125)) (p 125) (p 122) (p (-122))
def i2 (a : EReal) := stepI a (s1 a) (i1 a) (p 61) (p (-61))
def i3 (a : EReal) := stepI a (s2 a) (i2 a) (p 31) (p (-31))
def i4 (a : EReal) := stepI a (s3 a) (i3 a) (p 16) (p (-16))
def i5 (a : EReal) := stepI a (s4 a) (i4 a) (p 8) (p (-8))
def i6 (a : EReal) := stepI a (s5 a) (i5 a) (p 4) (p (-4))
def i7 (a : EReal) := stepI a (s6 a) (i6 a) (p 2) (p (-2))
def i8 (a : EReal) := stepI a (s7 a) (i7 a) (p 1) (p (-1))

/-- The search finds the exponent. -/
theorem found (a : ℝ) (e : ℤ) (h1 : 448 * (2 : ℝ) ^ (e - 1) ≤ a) (h2 : a < 448 * (2 : ℝ) ^ e) (hl : -125 ≤ e) (hu : e ≤ 120) :
    s8 a = p e ∧ i8 a = p (-e) := by
  have t1 := step a e 122 123 h1 h2 (by omega) (p (-125)) (p 125) ⟨-125, rfl, rfl, hl, by omega⟩
  have t2 := step a e 61 62 h1 h2 (by omega) (s1 a) (i1 a) t1
  have t3 := step a e 31 31 h1 h2 (by omega) (s2 a) (i2 a) t2
  have t4 := step a e 16 15 h1 h2 (by omega) (s3 a) (i3 a) t3
  have t5 := step a e 8 7 h1 h2 (by omega) (s4 a) (i4 a) t4
  have t6 := step a e 4 3 h1 h2 (by omega) (s5 a) (i5 a) t5
  have t7 := step a e 2 1 h1 h2 (by omega) (s6 a) (i6 a) t6
  obtain ⟨e0, hs, hi, h3, h4⟩ := step a e 1 0 h1 h2 (by omega) (s7 a) (i7 a) t7
  obtain rfl : e0 = e := by omega
  exact ⟨hs, hi⟩

/-- The scale as the search finds it, 1 below the smallest value it serves. -/
def scale (a : EReal) : EReal := if ((448 * (2 : ℝ) ^ (-126 : ℤ) : ℝ) : EReal) ≤ a then s8 a else p 0

def inv (a : EReal) : EReal := if ((448 * (2 : ℝ) ^ (-126 : ℤ) : ℝ) : EReal) ≤ a then i8 a else p 0

/-- The exponent as the reference states it: that of `a / 448`, plus one; 0 if `a / 448` is below 2⁻¹²⁶. -/
def expo (a : EReal) : EReal :=
  if Ideal.div a ((448 : ℝ) : EReal) < (((2 : ℝ) ^ (-126 : ℤ) : ℝ) : EReal) then 0
  else Ideal.liftRound Int.floor (Ideal.div (Ideal.log (Ideal.div a ((448 : ℝ) : EReal))) ((Real.log 2 : ℝ) : EReal)) + ((1 : ℝ) : EReal)

theorem exp2_int (e : ℤ) : Ideal.exp2 (((e : ℝ)) : EReal) = p e := by
  show ((Real.rpow 2 (e : ℝ) : ℝ) : EReal) = _
  unfold p
  congr 1
  exact Real.rpow_intCast 2 e

theorem not_below (a t : ℝ) (h : 448 * t ≤ a) : ¬a * (1 / 448) < t := by linarith

theorem below (a t : ℝ) (h : a < 448 * t) : a * (1 / 448) < t := by linarith

/-- The exponent of a real that the search serves. -/
theorem expo_pos (a : ℝ) (h : 448 * (2 : ℝ) ^ (-126 : ℤ) ≤ a) (hu : a < 448 * (2 : ℝ) ^ (120 : ℤ)) :
    ∃ e : ℤ, expo a = ((e : ℝ) : EReal) ∧ 448 * (2 : ℝ) ^ (e - 1) ≤ a ∧ a < 448 * (2 : ℝ) ^ e ∧ -125 ≤ e ∧ e ≤ 120 := by
  have hp : (0 : ℝ) < (2 : ℝ) ^ (-126 : ℤ) := by positivity
  have ha : 0 < a * (1 / 448) := by linarith
  have hlog2 : (0 : ℝ) < Real.log 2 := Real.log_pos (by norm_num)
  have hdiv : Ideal.div (a : EReal) ((448 : ℝ) : EReal) = ((a * (1 / 448) : ℝ) : EReal) := by
    rw [Ideal.div_coe (by norm_num), EReal.coe_mul]
  have hlog : Ideal.log ((a * (1 / 448) : ℝ) : EReal) = ((Real.log (a * (1 / 448)) : ℝ) : EReal) := by
    show (if a * (1 / 448) ≤ 0 then (⊥ : EReal) else _) = _
    rw [if_neg (not_le.2 ha)]
  have hdiv2 : Ideal.div ((Real.log (a * (1 / 448)) : ℝ) : EReal) ((Real.log 2 : ℝ) : EReal)
      = ((Real.log (a * (1 / 448)) / Real.log 2 : ℝ) : EReal) := by
    rw [Ideal.div_coe hlog2.ne', ← EReal.coe_mul]
    congr 1
    ring
  set L : ℝ := Real.log (a * (1 / 448)) / Real.log 2 with hL
  have hrp : (2 : ℝ) ^ L = a * (1 / 448) := by
    rw [hL, Real.rpow_def_of_pos (by norm_num)]
    rw [show Real.log 2 * (Real.log (a * (1 / 448)) / Real.log 2) = Real.log (a * (1 / 448)) by field_simp]
    exact Real.exp_log ha
  have hlo : (2 : ℝ) ^ (⌊L⌋ : ℤ) ≤ a * (1 / 448) := by
    rw [← hrp, ← Real.rpow_intCast]
    exact Real.rpow_le_rpow_of_exponent_le (by norm_num) (Int.floor_le L)
  have hhi : a * (1 / 448) < (2 : ℝ) ^ (⌊L⌋ + 1 : ℤ) := by
    rw [← hrp, ← Real.rpow_intCast]
    refine Real.rpow_lt_rpow_of_exponent_lt (by norm_num) ?_
    push_cast
    exact Int.lt_floor_add_one L
  refine ⟨⌊L⌋ + 1, ?_, ?_, ?_, ?_, ?_⟩
  · unfold expo
    rw [hdiv, hlog, hdiv2, if_neg (by rw [EReal.coe_lt_coe_iff]; exact not_below a _ h)]
    show ((⌊L⌋ : ℝ) : EReal) + ((1 : ℝ) : EReal) = _
    rw [← EReal.coe_add]
    push_cast
    rfl
  · rw [add_sub_cancel_right]; linarith
  · linarith
  · by_contra hc
    have : (2 : ℝ) ^ (⌊L⌋ + 1 : ℤ) ≤ (2 : ℝ) ^ (-126 : ℤ) := zpow_le_zpow_right₀ (by norm_num) (by omega)
    linarith
  · by_contra hc
    have : (2 : ℝ) ^ (120 : ℤ) ≤ (2 : ℝ) ^ (⌊L⌋ : ℤ) := zpow_le_zpow_right₀ (by norm_num) (by omega)
    linarith

theorem expo_small (a : ℝ) (h : a < 448 * (2 : ℝ) ^ (-126 : ℤ)) : expo a = 0 := by
  unfold expo
  rw [Ideal.div_coe (by norm_num), ← EReal.coe_mul, if_pos (by rw [EReal.coe_lt_coe_iff]; exact below a _ h)]

/-- The searched scale and reciprocal are the reference's, for every real that bf16 can hold. -/
theorem scale_eq (a : ℝ) (hu : a < 448 * (2 : ℝ) ^ (120 : ℤ)) :
    scale a = Ideal.exp2 (expo a) ∧ inv a = Ideal.exp2 (0 - expo a) := by
  unfold scale inv
  by_cases h : 448 * (2 : ℝ) ^ (-126 : ℤ) ≤ a
  · obtain ⟨e, he, h1, h2, h3, h4⟩ := expo_pos a h hu
    obtain ⟨hs, hi⟩ := found a e h1 h2 h3 h4
    rw [if_pos (EReal.coe_le_coe_iff.2 h), if_pos (EReal.coe_le_coe_iff.2 h), hs, hi, he, exp2_int, zero_sub, ← EReal.coe_neg]
    refine ⟨rfl, ?_⟩
    rw [← Int.cast_neg, exp2_int]
  · rw [if_neg (fun hc => h (EReal.coe_le_coe_iff.1 hc)), if_neg (fun hc => h (EReal.coe_le_coe_iff.1 hc)),
      expo_small a (not_le.1 h)]
    have h0 : Ideal.exp2 (0 : EReal) = p 0 := by
      have := exp2_int 0
      simpa using this
    rw [sub_zero, h0]
    exact ⟨rfl, rfl⟩

end Cert.Search

end
-- ==== Proof.Spec.lean ====
/- What both programs compute, written over the extended reals: a token's features are cut into 40 groups of 128, each
   group is divided by its scale and clipped to the codes' range, the codes times the scales are multiplied by the
   weights times their block's scale, and the first 512 of the 576 features are normalised. The scale of a group and its
   reciprocal are two functions of the greatest magnitude in the group, left open here. -/
module

public import proofs.«01_k».proof.Proof.Search
public import Idealize.ShloMosaic.Lib.ValueIdx

@[expose] public section

noncomputable section

namespace Cert.Spec

open Idealize.ShloMosaic Idealize.ShloMosaic.ValueIdx
open scoped BigOperators

/-- The group a feature lies in. -/
def grp (k : Fin 5120) : Fin 40 := ⟨k.val / 128, by omega⟩
/-- The feature at place `l` of group `g`. -/
def col (g : Fin 40) (l : Fin 128) : Fin 5120 := ⟨128 * g.val + l.val, by omega⟩

/-- The activations as 6144 rows of 5120 features. -/
def rows (x : FVec Ideal ⟨3, ![4, 1536, 5120]⟩ .bf16) (r : Fin 6144) (k : Fin 5120) : EReal :=
  x (ix3 (⟨r.val / 1536, by omega⟩ : Fin 4) (⟨r.val % 1536, by omega⟩ : Fin 1536) k)

/-- The greatest magnitude in group `g` of row `r`. -/
def amax (X : Fin 6144 → Fin 5120 → EReal) (r : Fin 6144) (g : Fin 40) : EReal :=
  (Finset.univ : Finset (Fin 128)).fold max ⊥ fun l => max (X r (col g l)) (-(X r (col g l)))

/-- The greatest code, and the least. -/
def hi : EReal := Ideal.ofBits .f32 0x43E00000#32
/-- The least code. -/
def lo : EReal := Ideal.ofBits .f32 0xC3E00000#32
/-- The term that keeps the root of the mean square off zero. -/
def eps : EReal := Ideal.ofBits .f32 0x358637BD#32

/-- The code of a feature: the feature times the reciprocal of its group's scale, clipped. -/
def code (I : EReal → EReal) (X : Fin 6144 → Fin 5120 → EReal) (r : Fin 6144) (k : Fin 5120) : EReal :=
  min hi (max lo (X r k * I (amax X r (grp k))))

/-- A dequantised feature: its code times the scale. -/
def deq (S I : EReal → EReal) (X : Fin 6144 → Fin 5120 → EReal) (r : Fin 6144) (k : Fin 5120) : EReal :=
  code I X r k * S (amax X r (grp k))

/-- A dequantised weight: its code times the scale of its 128 × 128 block. -/
def wt (w : FVec Ideal ⟨2, ![576, 5120]⟩ .fp8e4m3) (s : FVec Ideal ⟨2, ![5, 40]⟩ .f32) (o : Fin 576) (k : Fin 5120) : EReal :=
  w (ix2 o k) * s (ix2 (⟨o.val / 128, by omega⟩ : Fin 5) (grp k))

/-- The product of the dequantised operands. -/
def prod (D : Fin 6144 → Fin 5120 → EReal) (W : Fin 576 → Fin 5120 → EReal) (r : Fin 6144) (o : Fin 576) : EReal :=
  ∑ k : Fin 5120, D r k * W o k

/-- The first 512 features of the product. -/
def head (o : Fin 512) : Fin 576 := ⟨o.val, by omega⟩
/-- The last 64. -/
def tail (o : Fin 64) : Fin 576 := ⟨512 + o.val, by omega⟩

/-- The normalised features: each times the reciprocal root of the row's mean square, times its gain. -/
def norm (Y : Fin 6144 → Fin 576 → EReal) (γ : FVec Ideal ⟨1, ![512]⟩ .bf16) (r : Fin 6144) (o : Fin 512) : EReal :=
  Y r (head o) * Ideal.rsqrt ((∑ j : Fin 512, Y r (head j) * Y r (head j)) * ((1 / 512 : ℝ) : EReal) + eps) * γ (ix1 o)

/-- Two ways to find scales that agree on the groups of `X` give the same codes … -/
theorem code_congr {I I' : EReal → EReal} {X : Fin 6144 → Fin 5120 → EReal} (hI : ∀ r g, I (amax X r g) = I' (amax X r g)) :
    code I X = code I' X := by
  funext r k; simp only [code, hI]

/-- … and the same dequantised features. -/
theorem deq_congr {S S' I I' : EReal → EReal} {X : Fin 6144 → Fin 5120 → EReal} (hI : ∀ r g, I (amax X r g) = I' (amax X r g))
    (hS : ∀ r g, S (amax X r g) = S' (amax X r g)) : deq S I X = deq S' I' X := by
  funext r k; simp only [deq, hS, code_congr hI]

/-- The greatest magnitude in a group of reals of magnitude at most `b` is a real number, at most `b`. -/
theorem amax_real (X : Fin 6144 → Fin 5120 → EReal) (b : ℝ) (h : ∀ r k, max (X r k) (-(X r k)) ≤ (b : EReal)) (r : Fin 6144)
    (g : Fin 40) : ∃ a : ℝ, amax X r g = (a : EReal) ∧ a ≤ b := by
  have hub : amax X r g ≤ (b : EReal) :=
    (Finset.fold_max_le (b : EReal)).2 ⟨bot_le, fun l _ => h r _⟩
  have hlb : (0 : EReal) ≤ amax X r g := by
    refine le_trans ?_ ((Finset.le_fold_max _).2 (Or.inr ⟨0, Finset.mem_univ _, le_rfl⟩))
    rcases le_total 0 (X r (col g 0)) with hx | hx
    · exact le_trans hx (le_max_left _ _)
    · refine le_trans ?_ (le_max_right _ _)
      have := EReal.neg_le_neg_iff.2 hx
      rwa [neg_zero] at this
  generalize amax X r g = t at hub hlb
  induction t with
  | bot => simp at hlb
  | top => simp at hub
  | coe a => exact ⟨a, rfl, EReal.coe_le_coe_iff.1 hub⟩

end Cert.Spec

end
-- ==== Proof.Group.lean ====
/- The kernel's work on one group of 128 columns of a 512-token block, in named stages, at any float instance: the
   group's greatest absolute value, the search for the scale (eight conditional doublings), the codes, the product of
   codes and scale that goes into the matrix product, and the lane select that gathers the forty scales. -/
module

public import proofs.«01_k».proof.Proof.Gen.KernelIdeal.Frame

@[expose] public section

namespace Cert.KernelIdeal.Group

open Idealize.ShloMosaic Cert.KernelIdeal Cert.KernelIdeal.Gen

variable {F : FTy → Type} [FloatOps F]

/-- Where group `g` of a block of 5120 columns lies: all 512 tokens, columns 128 g to 128 g + 127. -/
theorem inb (g : Fin 40) : ∀ a, (![0, 128 * g.val] : Fin 2 → Nat) a + S512x128.size a ≤ S512x5120.size a := by
  intro a
  have := g.isLt
  fin_cases a
  · show 0 + 512 ≤ 512; omega
  · show 128 * g.val + 128 ≤ 5120; omega

abbrev rect (g : Fin 40) : Rect S512x5120 := Rect.unit (s := S512x5120) ![0, 128 * g.val] S512x128.size (inb g)

/-- One constant on every element of a group. -/
def splat (w : BitVec 16) : FVec F S512x128 .bf16 := broadcast S512x128 (Scalar.ofBits .bf16 w)

/-- Each token's greatest absolute value in the group, on every lane. -/
def amax (x : Vec F S512x128 .bf16) : FVec F S512x128 .bf16 :=
  broadcastTo S512x128
    (shapeCast S512x1
      (shapeCast S512x1
        (multiReduction .maximumf [1] S512 (absf (shapeCast S512x128 x shapeCasts_S512x128_S512x128)) 0xFF80#16 reduces_S512x128_S512 (.inr rfl) rfl)
        shapeCasts_S512_S512x1)
      shapeCasts_S512x1_S512x1)
    broadcasts_S512x1_S512x128

/-- One step's question: is `a` at least 224 times the scale `s` raised by the power of two `k`? -/
def up (a s : FVec F S512x128 .bf16) (k : BitVec 16) : IVec S512x128 1 :=
  cmpf .oge a (mulf (mulf s (splat k)) (splat 0x4360#16))

/-- The scale after one step. -/
def stepS (a s : FVec F S512x128 .bf16) (k : BitVec 16) : FVec F S512x128 .bf16 :=
  select (up a s k) (mulf s (splat k)) s

/-- The scale's reciprocal after one step; `k'` is the reciprocal of `k`. -/
def stepI (a s i : FVec F S512x128 .bf16) (k k' : BitVec 16) : FVec F S512x128 .bf16 :=
  select (up a s k) (mulf i (splat k')) i

/- The eight steps: by 2¹²², 2⁶¹, 2³¹, 2¹⁶, 2⁸, 2⁴, 2² and 2, from 2⁻¹²⁵. -/
def s1 (a : FVec F S512x128 .bf16) := stepS a (splat 0x0100#16) 0x7C80#16
def s2 (a : FVec F S512x128 .bf16) := stepS a (s1 a) 0x5E00#16
def s3 (a : FVec F S512x128 .bf16) := stepS a (s2 a) 0x4F00#16
def s4 (a : FVec F S512x128 .bf16) := stepS a (s3 a) 0x4780#16
def s5 (a : FVec F S512x128 .bf16) := stepS a (s4 a) 0x4380#16
def s6 (a : FVec F S512x128 .bf16) := stepS a (s5 a) 0x4180#16
def s7 (a : FVec F S512x128 .bf16) := stepS a (s6 a) 0x4080#16
def s8 (a : FVec F S512x128 .bf16) := stepS a (s7 a) 0x4000#16

/- The reciprocal beside each of them, from 2¹²⁵. -/
def i1 (a : FVec F S512x128 .bf16) := stepI a (splat 0x0100#16) (splat 0x7E00#16) 0x7C80#16 0x0280#16
def i2 (a : FVec F S512x128 .bf16) := stepI a (s1 a) (i1 a) 0x5E00#16 0x2100#16
def i3 (a : FVec F S512x128 .bf16) := stepI a (s2 a) (i2 a) 0x4F00#16 0x3000#16
def i4 (a : FVec F S512x128 .bf16) := stepI a (s3 a) (i3 a) 0x4780#16 0x3780#16
def i5 (a : FVec F S512x128 .bf16) := stepI a (s4 a) (i4 a) 0x4380#16 0x3B80#16
def i6 (a : FVec F S512x128 .bf16) := stepI a (s5 a) (i5 a) 0x4180#16 0x3D80#16
def i7 (a : FVec F S512x128 .bf16) := stepI a (s6 a) (i6 a) 0x4080#16 0x3E80#16
def i8 (a : FVec F S512x128 .bf16) := stepI a (s7 a) (i7 a) 0x4000#16 0x3F00#16

/-- The group's scale: what the search found, or 1 when the greatest absolute value is below the smallest it serves. -/
def scale (x : Vec F S512x128 .bf16) : FVec F S512x128 .bf16 :=
  select (cmpf .oge (amax x) (splat 0x04E0#16)) (s8 (amax x)) (splat 0x3F80#16)

/-- The scale's reciprocal. -/
def inv (x : Vec F S512x128 .bf16) : FVec F S512x128 .bf16 :=
  select (cmpf .oge (amax x) (splat 0x04E0#16)) (i8 (amax x)) (splat 0x3F80#16)

/-- The group's codes: times the reciprocal, clipped to ±448, rounded to an 8-bit float. -/
def codes (x : Vec F S512x128 .bf16) : FVec F S512x128 .fp8e4m3 :=
  truncf .fp8e4m3
    (minimumf (broadcast S512x128 (Scalar.truncf .bf16 bitsLt_bf16_f32 (Scalar.ofBits .f32 0x43E00000#32)))
      (maximumf (broadcast S512x128 (Scalar.truncf .bf16 bitsLt_bf16_f32 (Scalar.ofBits .f32 0xC3E00000#32)))
        (mulf (shapeCast S512x128 x shapeCasts_S512x128_S512x128) (inv x))))
    bitsLt_fp8e4m3_bf16

/-- The codes times the scale. -/
def xw (x : Vec F S512x128 .bf16) : FVec F S512x128 .bf16 :=
  shapeCast S512x128 (mulf (extf .bf16 (codes x) bitsLt_fp8e4m3_bf16) (scale x)) shapeCasts_S512x128_S512x128

/-- Group `g` of a block. -/
abbrev slab (x : Vec F S512x5120 .bf16) (g : Fin 40) : Vec F S512x128 .bf16 := View.ld x (rect g)

/-- The scales of the groups below `n`, group `g`'s on lane `g`. -/
def gathered (x : Fin 40 → Vec F S512x128 .bf16) : (n : Nat) → n ≤ 40 → FVec F S512x128 .bf16
  | 0, _ => splat 0x0000#16
  | n + 1, h =>
    select (cmpi .eq (iota .tc S512x128 16 [1] iota_S512x128_d1_w16) (broadcast S512x128 (BitVec.ofNat 16 n)))
      (scale (x ⟨n, h⟩)) (gathered x n (Nat.le_of_succ_le h))

/-- The forty scales of each token, as f32. -/
def scales (x : Fin 40 → Vec F S512x128 .bf16) : FVec F S512x40 .f32 :=
  extf .f32 (extractStridedSlice S512x40 ![0, 0] (gathered x 40 le_rfl) slices_S512x128_o0_0_S512x40) bitsLt_bf16_f32

/-- The groups, the last first: the order in which a run lists its stores. -/
def groups : List (Fin 40) :=
  [39, 38, 37, 36, 35, 34, 33, 32, 31, 30, 29, 28, 27, 26, 25, 24, 23, 22, 21, 20, 19, 18, 17, 16, 15, 14, 13, 12, 11, 10, 9, 8, 7, 6, 5, 4, 3, 2, 1, 0]

/-- Where the block of weights of rows 128 b to 128 b + 127 and column group `g` lies, `b` below 4. -/
theorem inbW (b : Fin 4) (g : Fin 40) :
    ∀ a, (![128 * b.val, 128 * g.val] : Fin 2 → Nat) a + S128x128.size a ≤ S576x5120.size a := by
  intro a
  have := g.isLt
  have := b.isLt
  fin_cases a
  · show 128 * b.val + 128 ≤ 576; omega
  · show 128 * g.val + 128 ≤ 5120; omega

abbrev rectW (b : Fin 4) (g : Fin 40) : Rect S576x5120 :=
  Rect.unit (s := S576x5120) ![128 * b.val, 128 * g.val] S128x128.size (inbW b g)

/-- The last 64 rows, column group `g`. -/
theorem inbL (g : Fin 40) : ∀ a, (![512, 128 * g.val] : Fin 2 → Nat) a + S64x128.size a ≤ S576x5120.size a := by
  intro a
  have := g.isLt
  fin_cases a
  · show 512 + 64 ≤ 576; omega
  · show 128 * g.val + 128 ≤ 5120; omega

abbrev rectL (g : Fin 40) : Rect S576x5120 :=
  Rect.unit (s := S576x5120) ![512, 128 * g.val] S64x128.size (inbL g)

/-- One scale word of the weights' 5 by 40 table. -/
theorem inbS (b : Fin 5) (g : Fin 40) : ∀ a, (![b.val, g.val] : Fin 2 → Nat) a + S1x1.size a ≤ S5x40.size a := by
  intro a
  have := g.isLt
  have := b.isLt
  fin_cases a
  · show b.val + 1 ≤ 5; omega
  · show g.val + 1 ≤ 40; omega

abbrev rectS (b : Fin 5) (g : Fin 40) : Rect S5x40 := Rect.unit (s := S5x40) ![b.val, g.val] S1x1.size (inbS b g)

/-- A block of weights dequantised: the codes widened, times their block's scale rounded to bf16. -/
def wblock (s : Elt F .f32) (w : Vec F S128x128 .fp8e4m3) : FVec F S128x128 .bf16 :=
  shapeCast S128x128
    (mulf (extf .bf16 w bitsLt_fp8e4m3_bf16) (truncf .bf16 (broadcast S128x128 s : FVec F S128x128 .f32) bitsLt_bf16_f32))
    shapeCasts_S128x128_S128x128

/-- The same for a block of the last 64 rows. -/
def wlast (s : Elt F .f32) (w : Vec F S64x128 .fp8e4m3) : FVec F S64x128 .bf16 :=
  shapeCast S64x128
    (mulf (extf .bf16 w bitsLt_fp8e4m3_bf16) (truncf .bf16 (broadcast S64x128 s : FVec F S64x128 .f32) bitsLt_bf16_f32))
    shapeCasts_S64x128_S64x128

/-- The dequantised weights as the run's list of stores. -/
def wpieces (s : Fin 5 → Fin 40 → Elt F .f32) (w : Fin 4 → Fin 40 → Vec F S128x128 .fp8e4m3) (l : Fin 40 → Vec F S64x128 .fp8e4m3) :
    List (View.Piece (Elt F) S576x5120 .bf16) :=
  groups.map (fun g => ⟨rectL g, wlast (s 4 g) (l g)⟩)
    ++ groups.map (fun g => ⟨rectW 3 g, wblock (s 3 g) (w 3 g)⟩)
    ++ groups.map (fun g => ⟨rectW 2 g, wblock (s 2 g) (w 2 g)⟩)
    ++ groups.map (fun g => ⟨rectW 1 g, wblock (s 1 g) (w 1 g)⟩)
    ++ groups.map (fun g => ⟨rectW 0 g, wblock (s 0 g) (w 0 g)⟩)

end Cert.KernelIdeal.Group

end
-- ==== Proof.Blocks.lean ====
/- What lists of stores over the column groups, and over the blocks of weights, leave in the array they cover. -/
module

public import proofs.«01_k».proof.Proof.Group
public import Idealize.ShloMosaic.Lib.Pipeline.Value
public import Idealize.ShloMosaic.Lib.ValueIdx

@[expose] public section

namespace Cert.KernelIdeal.Group

open Idealize.ShloMosaic Idealize.ShloMosaic.ValueIdx Cert.KernelIdeal Cert.KernelIdeal.Gen

/-- The group that column `n` lies in. -/
def grpOf (n : Nat) (h : n < 5120) : Fin 40 := ⟨n / 128, by omega⟩

/-- The place within its group of an element of a block. -/
def locOf (y : S512x5120.Idx) : S512x128.Idx := ix2 ⟨(y 0).val, (y 0).isLt⟩ ⟨(y 1).val % 128, Nat.mod_lt _ (by decide)⟩

/-- A block of 5120 columns given group by group. -/
def perGroup {α : Type} (f : Fin 40 → S512x128.Idx → α) : S512x5120.Idx → α :=
  fun y => f (grpOf (y 1).val (y 1).isLt) (locOf y)

theorem mem_groups : ∀ g : Fin 40, g ∈ groups := by decide

theorem perGroup_emb {α : Type} (f : Fin 40 → S512x128.Idx → α) (g : Fin 40) (j : S512x128.Idx) :
    f g j = perGroup f ((rect g).emb j) := by
  have h1 : (((rect g).emb j) 1).val = 128 * g.val + (j 1).val := by
    show 128 * g.val + 1 * (j 1).val = _
    omega
  have h0 : (((rect g).emb j) 0).val = (j 0).val := by
    show 0 + 1 * (j 0).val = _
    omega
  have hj : (j 1).val < 128 := (j 1).isLt
  have e1 : grpOf (((rect g).emb j) 1).val (((rect g).emb j) 1).isLt = g := by
    apply Fin.ext; simp only [grpOf, h1]; omega
  have e2 : locOf ((rect g).emb j) = j := by
    funext a
    apply Fin.ext
    fin_cases a
    · exact h0
    · show (((rect g).emb j) 1).val % 128 = (j 1).val
      rw [h1]; omega
  unfold perGroup
  rw [e1, e2]

variable {F : FTy → Type} [FloatOps F] {e : EltTy}

theorem cover_groups (f : (g : Fin 40) → S512x128.Idx → Elt F e) (y : S512x5120.Idx) :
    ∃ p ∈ (groups.map fun g => (⟨rect g, f g⟩ : View.Piece (Elt F) S512x5120 e)), y ∈ p.1.set := by
  refine ⟨_, List.mem_map_of_mem (mem_groups (grpOf (y 1).val (y 1).isLt)), ?_⟩
  rw [Rect.mem_set_unit]
  have h0 : (y 0).val < 512 := (y 0).isLt
  have h1 : (y 1).val < 5120 := (y 1).isLt
  intro a
  fin_cases a
  · show 0 ≤ (y 0).val ∧ (y 0).val < 0 + 512
    omega
  · show 128 * ((y 1).val / 128) ≤ (y 1).val ∧ (y 1).val < 128 * ((y 1).val / 128) + 128
    omega

/-- Stores of every group's block leave the array given group by group. -/
theorem canon_groups (f : (g : Fin 40) → S512x128.Idx → Elt F e) :
    View.canon (groups.map fun g => (⟨rect g, f g⟩ : View.Piece (Elt F) S512x5120 e)) = perGroup f := by
  funext y
  refine View.canon_apply_of_pieces (perGroup f) _ (fun p hp j => ?_) y (cover_groups f y)
  obtain ⟨g, -, rfl⟩ := List.mem_map.1 hp
  exact perGroup_emb f g j

/-- The dequantised weights: every code widened, times its block's scale rounded to bf16. -/
def weights (s : Vec F S5x40 .f32) (w : Vec F S576x5120 .fp8e4m3) : Vec F S576x5120 .bf16 := fun y =>
  FloatOps.mulf (FloatOps.extf .bf16 bitsLt_fp8e4m3_bf16 (w y))
    (FloatOps.truncf .bf16 bitsLt_bf16_f32
      (s (ix2 ⟨(y 0).val / 128, by have : (y 0).val < 576 := (y 0).isLt; omega⟩ (grpOf (y 1).val (y 1).isLt))))

theorem posS : 0 < S1x1.numel := by decide

/-- A block of weights dequantised, at an element. -/
theorem wblock_apply (s : Elt F .f32) (w : Vec F S128x128 .fp8e4m3) (j : S128x128.Idx) :
    wblock s w j = FloatOps.mulf (FloatOps.extf .bf16 bitsLt_fp8e4m3_bf16 (w j)) (FloatOps.truncf .bf16 bitsLt_bf16_f32 s) := by
  unfold wblock
  rw [shapeCast_self]
  rfl

theorem wlast_apply (s : Elt F .f32) (w : Vec F S64x128 .fp8e4m3) (j : S64x128.Idx) :
    wlast s w j = FloatOps.mulf (FloatOps.extf .bf16 bitsLt_fp8e4m3_bf16 (w j)) (FloatOps.truncf .bf16 bitsLt_bf16_f32 s) := by
  unfold wlast
  rw [shapeCast_self]
  rfl

/-- The scale word of an element of the weights lies at its row's and its column's block. -/
theorem weights_at (s : Vec F S5x40 .f32) (w : Vec F S576x5120 .fp8e4m3) (y : S576x5120.Idx) (b : Fin 5) (g : Fin 40)
    (hb : (y 0).val / 128 = b.val) (hg : (y 1).val / 128 = g.val) :
    weights s w y = FloatOps.mulf (FloatOps.extf .bf16 bitsLt_fp8e4m3_bf16 (w y))
      (FloatOps.truncf .bf16 bitsLt_bf16_f32 (View.ld s (rectS b g) (Shape.Idx.first posS))) := by
  unfold weights
  congr 2
  show s _ = s _
  congr 1
  funext a
  apply Fin.ext
  fin_cases a
  · show (y 0).val / 128 = b.val + 1 * 0
    omega
  · show (y 1).val / 128 = g.val + 1 * 0
    omega

theorem mem_rectW (b : Fin 4) (g : Fin 40) (y : S576x5120.Idx) (hb : (y 0).val / 128 = b.val) (hg : (y 1).val / 128 = g.val) :
    y ∈ (rectW b g).set := by
  rw [Rect.mem_set_unit]
  intro a
  fin_cases a
  · show 128 * b.val ≤ (y 0).val ∧ (y 0).val < 128 * b.val + 128
    omega
  · show 128 * g.val ≤ (y 1).val ∧ (y 1).val < 128 * g.val + 128
    omega

theorem mem_rectL (g : Fin 40) (y : S576x5120.Idx) (hb : (y 0).val / 128 = 4) (hg : (y 1).val / 128 = g.val) :
    y ∈ (rectL g).set := by
  have h0 : (y 0).val < 576 := (y 0).isLt
  rw [Rect.mem_set_unit]
  intro a
  fin_cases a
  · show 512 ≤ (y 0).val ∧ (y 0).val < 512 + 64
    omega
  · show 128 * g.val ≤ (y 1).val ∧ (y 1).val < 128 * g.val + 128
    omega

/-- Every element of the weights lies in one of the blocks. -/
theorem cover_wpieces (s : Fin 5 → Fin 40 → Elt F .f32) (w : Fin 4 → Fin 40 → Vec F S128x128 .fp8e4m3)
    (l : Fin 40 → Vec F S64x128 .fp8e4m3) (y : S576x5120.Idx) : ∃ p ∈ wpieces s w l, y ∈ p.1.set := by
  have h0 : (y 0).val < 576 := (y 0).isLt
  have h1 : (y 1).val < 5120 := (y 1).isLt
  have hg := mem_groups (grpOf (y 1).val (y 1).isLt)
  unfold wpieces
  rcases (by omega : (y 0).val / 128 = 0 ∨ (y 0).val / 128 = 1 ∨ (y 0).val / 128 = 2 ∨ (y 0).val / 128 = 3 ∨ (y 0).val / 128 = 4)
    with h | h | h | h | h
  · exact ⟨_, List.mem_append_right _ (List.mem_map_of_mem hg), mem_rectW 0 _ y h rfl⟩
  · exact ⟨_, List.mem_append_left _ (List.mem_append_right _ (List.mem_map_of_mem hg)), mem_rectW 1 _ y h rfl⟩
  · exact ⟨_, List.mem_append_left _ (List.mem_append_left _ (List.mem_append_right _ (List.mem_map_of_mem hg))),
      mem_rectW 2 _ y h rfl⟩
  · exact ⟨_, List.mem_append_left _ (List.mem_append_left _ (List.mem_append_left _ (List.mem_append_right _
      (List.mem_map_of_mem hg)))), mem_rectW 3 _ y h rfl⟩
  · exact ⟨_, List.mem_append_left _ (List.mem_append_left _ (List.mem_append_left _ (List.mem_append_left _
      (List.mem_map_of_mem hg)))), mem_rectL _ y h rfl⟩

theorem wblock_emb (s : Vec F S5x40 .f32) (w : Vec F S576x5120 .fp8e4m3) (b : Fin 4) (b' : Fin 5) (hb : b'.val = b.val) (g : Fin 40)
    (j : S128x128.Idx) :
    wblock (View.ld s (rectS b' g) (Shape.Idx.first posS)) (View.ld w (rectW b g)) j = weights s w ((rectW b g).emb j) := by
  have j0 : (j 0).val < 128 := (j 0).isLt
  have j1 : (j 1).val < 128 := (j 1).isLt
  rw [wblock_apply, weights_at s w _ b' g]
  · rfl
  · show (128 * b.val + 1 * (j 0).val) / 128 = _
    omega
  · show (128 * g.val + 1 * (j 1).val) / 128 = _
    omega

theorem wlast_emb (s : Vec F S5x40 .f32) (w : Vec F S576x5120 .fp8e4m3) (g : Fin 40) (j : S64x128.Idx) :
    wlast (View.ld s (rectS 4 g) (Shape.Idx.first posS)) (View.ld w (rectL g)) j = weights s w ((rectL g).emb j) := by
  have j0 : (j 0).val < 64 := (j 0).isLt
  have j1 : (j 1).val < 128 := (j 1).isLt
  rw [wlast_apply, weights_at s w _ 4 g]
  · rfl
  · show (512 + 1 * (j 0).val) / 128 = 4
    omega
  · show (128 * g.val + 1 * (j 1).val) / 128 = _
    omega

/-- The run's stores of weights leave the dequantised weights. -/
theorem canon_wpieces (s : Vec F S5x40 .f32) (w : Vec F S576x5120 .fp8e4m3) :
    View.canon (wpieces (fun b g => View.ld s (rectS b g) (Shape.Idx.first posS))
      (fun b g => View.ld w (rectW b g)) (fun g => View.ld w (rectL g))) = weights s w := by
  funext y
  refine View.canon_apply_of_pieces (weights s w) _ (fun p hp j => ?_) y (cover_wpieces _ _ _ y)
  unfold wpieces at hp
  simp only [List.mem_append, List.mem_map] at hp
  rcases hp with (((⟨g, -, rfl⟩ | ⟨g, -, rfl⟩) | ⟨g, -, rfl⟩) | ⟨g, -, rfl⟩) | ⟨g, -, rfl⟩
  · exact wlast_emb s w g j
  · exact wblock_emb s w 3 3 rfl g j
  · exact wblock_emb s w 2 2 rfl g j
  · exact wblock_emb s w 1 1 rfl g j
  · exact wblock_emb s w 0 0 rfl g j

/-- The offset of a store of a whole array. -/
theorem zeros : (![0, 0] : Fin 2 → Nat) = fun _ => 0 := funext fun a => by fin_cases a <;> rfl

end Cert.KernelIdeal.Group

end
-- ==== Proof.PointA.lean ====
/- The kernel's body at the first point: it dequantises the weights into the scratch, then computes its block's four results like every other point. -/
module

public import proofs.«01_k».proof.Proof.Blocks

@[expose] public section

namespace Cert.KernelIdeal.Group

open Idealize.ShloMosaic Cert.KernelIdeal Cert.KernelIdeal.Gen

variable {F : FTy → Type} [FloatOps F]

variable (c : Dev nD) (i : grid0.Coords)
  (arg1 : Memref sig .tc .smem S5x40 .f32) (harg1 : arg1.IsWhole) (arg2 : Memref sig .tc .vmem S512x5120 .bf16) (harg2 : arg2.IsWhole)
  (arg3 : Memref sig .tc .vmem S576x5120 .fp8e4m3) (harg3 : arg3.IsWhole) (arg4 : Memref sig .tc .vmem S1x512 .bf16) (harg4 : arg4.IsWhole)
  (arg5 : Memref sig .tc .vmem S512x512 .bf16) (harg5 : arg5.IsWhole) (arg6 : Memref sig .tc .vmem S512x64 .bf16) (harg6 : arg6.IsWhole)
  (arg7 : Memref sig .tc .vmem S512x5120 .fp8e4m3) (harg7 : arg7.IsWhole) (arg8 : Memref sig .tc .vmem S512x40 .f32) (harg8 : arg8.IsWhole)
  (arg9 : Memref sig .tc .vmem S576x5120 .bf16) (harg9 : arg9.IsWhole) (arg10 : Memref sig .tc .vmem S512x5120 .bf16) (harg10 : arg10.IsWhole)
  (hc0 : cond0_0 i)
  (x0 : Vec F S5x40 .f32) (x1 : Vec F S512x5120 .bf16) (x2 : Vec F S576x5120 .fp8e4m3) (x3 : Vec F S1x512 .bf16)

set_option maxRecDepth 100000 in
/-- The run's two hundred stores into the weights' scratch are the blocks' dequantised weights. -/
theorem weightStores : kernelRun0_A.sl.HS0_200 c arg1 harg1 arg3 harg3 x0 x2 =
    wpieces (fun b g => View.readAt (Elt F) arg1.view (rectS b g).toLoadRect (harg1.unread x0) (Shape.Idx.first posS))
      (fun b g => View.readAt (Elt F) arg3.view (rectW b g).toLoadRect (harg3.unread x2))
      (fun g => View.readAt (Elt F) arg3.view (rectL g).toLoadRect (harg3.unread x2)) := by
  sl_kernel_rfl

/-- What they leave: the dequantised weights. -/
theorem weightStores_canon : View.canon (kernelRun0_A.sl.HS0_200 c arg1 harg1 arg3 harg3 x0 x2) = weights x0 x2 := by
  rw [weightStores]
  simp only [View.readAt_eq_ld, harg1.read_unread, harg3.read_unread]
  exact canon_wpieces x0 x2

/-- The scratch after the first point. -/
theorem scratch_A : sout0_A_0 c i arg1 harg1 arg2 harg2 arg3 harg3 arg4 harg4 arg5 harg5 arg6 harg6 arg7 harg7 arg8 harg8 arg9 harg9 arg10 harg10 hc0 x0 x1 x2 x3 = weights x0 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3)]
  unfold kernelRun0_A
  dsimp only
  exact weightStores_canon c arg1 harg1 arg3 harg3 x0 x2

set_option maxRecDepth 100000 in
/-- The run's stores of codes, group by group. -/
theorem codeStores_A : (kernelRun0_A c i arg1 harg1 arg2 harg2 arg3 harg3 arg4 harg4 arg5 harg5 arg6 harg6 arg7 harg7 arg8 harg8 arg9 harg9 arg10 harg10 hc0 x0 x1 x2 x3).2.2.1 =
    groups.map (fun g => ⟨rect g, codes (View.readAt (Elt F) arg2.view (rect g).toLoadRect (harg2.unread x1))⟩) := by
  sl_kernel_rfl

set_option maxRecDepth 100000 in
/-- The run's stores of codes times scale, group by group. -/
theorem xwStores_A : kernelRun0_A.sl.HS1_40 c arg2 harg2 x1 =
    groups.map (fun g => ⟨rect g, xw (View.readAt (Elt F) arg2.view (rect g).toLoadRect (harg2.unread x1))⟩) := by
  sl_kernel_rfl

set_option maxRecDepth 100000 in
/-- The run's one store of scales. -/
theorem scaleStore_A : (kernelRun0_A c i arg1 harg1 arg2 harg2 arg3 harg3 arg4 harg4 arg5 harg5 arg6 harg6 arg7 harg7 arg8 harg8 arg9 harg9 arg10 harg10 hc0 x0 x1 x2 x3).2.2.2.1 =
    [⟨Rect.unit (s := S512x40) ![0, 0] S512x40.size inb_S512x40_S512x40_0_0,
      scales (fun g => View.readAt (Elt F) arg2.view (rect g).toLoadRect (harg2.unread x1))⟩] := by
  sl_kernel_rfl

/-- The block's codes. -/
theorem out6_A : out0_A_6 c i arg1 harg1 arg2 harg2 arg3 harg3 arg4 harg4 arg5 harg5 arg6 harg6 arg7 harg7 arg8 harg8 arg9 harg9 arg10 harg10 hc0 x0 x1 x2 x3 = perGroup (fun g => codes (slab x1 g)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3), codeStores_A]
  simp only [View.readAt_eq_ld, harg2.read_unread]
  exact canon_groups _

/-- The block's scales. -/
theorem out7_A : out0_A_7 c i arg1 harg1 arg2 harg2 arg3 harg3 arg4 harg4 arg5 harg5 arg6 harg6 arg7 harg7 arg8 harg8 arg9 harg9 arg10 harg10 hc0 x0 x1 x2 x3 = scales (slab x1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3), scaleStore_A, View.canon_unit_zero zeros]
  simp only [View.readAt_eq_ld, harg2.read_unread]

/-- The matrix product's right operand, read back from its scratch. -/
theorem readXw_A : kernelRun0_A.sl.v4129 c arg2 harg2 arg10 x1 = perGroup (fun g => xw (slab x1 g)) := by
  unfold kernelRun0_A.sl.v4129
  rw [xwStores_A]
  simp only [View.readAt_eq_ld, harg2.read_unread]
  rw [View.readCov, View.readAt_eq_ld, View.read_writes_eq_canon _ _ _ (cover_groups _), View.ld_unit_zero zeros, canon_groups]

/-- The matrix product's left operand, read back from its scratch. -/
theorem readW_A : kernelRun0_A.sl.v4128 c arg1 harg1 arg3 harg3 arg9 x0 x2 = weights x0 x2 := by
  unfold kernelRun0_A.sl.v4128
  rw [View.readCov, View.readAt_eq_ld, View.read_writes_eq_canon _ _ _ (by rw [weightStores]; exact cover_wpieces _ _ _),
    View.ld_unit_zero zeros]
  exact weightStores_canon c arg1 harg1 arg3 harg3 x0 x2

/-- The block's normalised latent. -/
theorem out4_A : out0_A_4 c i arg1 harg1 arg2 harg2 arg3 harg3 arg4 harg4 arg5 harg5 arg6 harg6 arg7 harg7 arg8 harg8 arg9 harg9 arg10 harg10 hc0 x0 x1 x2 x3 = k0_pay1 (k0_pay1662 (weights x0 x2) (perGroup fun g => xw (slab x1 g))) x3 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 hc0 x0 x1 x2 x3)]
  unfold kernelRun0_A
  dsimp only
  rw [View.canon_unit_zero zeros]
  unfold kernelRun0_A.sl.r_586
  rw [readXw_A, readW_A]
  simp only [View.readAt_eq_ld, harg4.read_unread]
  rw [View.ld_unit_zero zeros]

/-- The block's rotary part. -/
theorem out5_A : out0_A_5 c i arg1 harg1 arg2 harg2 arg3 harg3 arg4 harg4 arg5 harg5 arg6 harg6 arg7 harg7 arg8 harg8 arg9 harg9 arg10 harg10 hc0 x0 x1 x2 x3 = k0_pay2 (k0_pay1661 (weights x0 x2) (perGroup fun g => xw (slab x1 g))) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3)]
  unfold kernelRun0_A
  dsimp only
  rw [View.canon_unit_zero zeros]
  unfold kernelRun0_A.sl.r_585
  rw [readXw_A, readW_A]

end Cert.KernelIdeal.Group

end
-- ==== Proof.PointB.lean ====
/- The kernel's body at every point after the first: the block's four results in named stages, over the dequantised weights that the first point left in the scratch. -/
module

public import proofs.«01_k».proof.Proof.Blocks

@[expose] public section

namespace Cert.KernelIdeal.Group

open Idealize.ShloMosaic Cert.KernelIdeal Cert.KernelIdeal.Gen

variable {F : FTy → Type} [FloatOps F]

variable (c : Dev nD) (i : grid0.Coords)
  (arg1 : Memref sig .tc .smem S5x40 .f32) (harg1 : arg1.IsWhole) (arg2 : Memref sig .tc .vmem S512x5120 .bf16) (harg2 : arg2.IsWhole)
  (arg3 : Memref sig .tc .vmem S576x5120 .fp8e4m3) (harg3 : arg3.IsWhole) (arg4 : Memref sig .tc .vmem S1x512 .bf16) (harg4 : arg4.IsWhole)
  (arg5 : Memref sig .tc .vmem S512x512 .bf16) (harg5 : arg5.IsWhole) (arg6 : Memref sig .tc .vmem S512x64 .bf16) (harg6 : arg6.IsWhole)
  (arg7 : Memref sig .tc .vmem S512x5120 .fp8e4m3) (harg7 : arg7.IsWhole) (arg8 : Memref sig .tc .vmem S512x40 .f32) (harg8 : arg8.IsWhole)
  (arg9 : Memref sig .tc .vmem S576x5120 .bf16) (harg9 : arg9.IsWhole) (arg10 : Memref sig .tc .vmem S512x5120 .bf16) (harg10 : arg10.IsWhole)
  (hc0 : ¬cond0_0 i)
  (x0 : Vec F S5x40 .f32) (x1 : Vec F S512x5120 .bf16) (x2 : Vec F S576x5120 .fp8e4m3) (x3 : Vec F S1x512 .bf16) (xs0 : Vec F S576x5120 .bf16)

set_option maxRecDepth 100000 in
/-- The run's stores of codes, group by group. -/
theorem codeStores_B : (kernelRun0_B c i arg1 harg1 arg2 harg2 arg3 harg3 arg4 harg4 arg5 harg5 arg6 harg6 arg7 harg7 arg8 harg8 arg9 harg9 arg10 harg10 hc0 x0 x1 x2 x3 xs0).2.2.1 =
    groups.map (fun g => ⟨rect g, codes (View.readAt (Elt F) arg2.view (rect g).toLoadRect (harg2.unread x1))⟩) := by
  sl_kernel_rfl

set_option maxRecDepth 100000 in
/-- The run's stores of codes times scale, group by group. -/
theorem xwStores_B : kernelRun0_B.sl.HS1_40 c arg2 harg2 x1 =
    groups.map (fun g => ⟨rect g, xw (View.readAt (Elt F) arg2.view (rect g).toLoadRect (harg2.unread x1))⟩) := by
  sl_kernel_rfl

set_option maxRecDepth 100000 in
/-- The run's one store of scales. -/
theorem scaleStore_B : (kernelRun0_B c i arg1 harg1 arg2 harg2 arg3 harg3 arg4 harg4 arg5 harg5 arg6 harg6 arg7 harg7 arg8 harg8 arg9 harg9 arg10 harg10 hc0 x0 x1 x2 x3 xs0).2.2.2.1 =
    [⟨Rect.unit (s := S512x40) ![0, 0] S512x40.size inb_S512x40_S512x40_0_0,
      scales (fun g => View.readAt (Elt F) arg2.view (rect g).toLoadRect (harg2.unread x1))⟩] := by
  sl_kernel_rfl

/-- The block's codes. -/
theorem out6_B : out0_B_6 c i arg1 harg1 arg2 harg2 arg3 harg3 arg4 harg4 arg5 harg5 arg6 harg6 arg7 harg7 arg8 harg8 arg9 harg9 arg10 harg10 hc0 x0 x1 x2 x3 xs0 = perGroup (fun g => codes (slab x1 g)) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 xs0), codeStores_B]
  simp only [View.readAt_eq_ld, harg2.read_unread]
  exact canon_groups _

/-- The block's scales. -/
theorem out7_B : out0_B_7 c i arg1 harg1 arg2 harg2 arg3 harg3 arg4 harg4 arg5 harg5 arg6 harg6 arg7 harg7 arg8 harg8 arg9 harg9 arg10 harg10 hc0 x0 x1 x2 x3 xs0 = scales (slab x1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 xs0), scaleStore_B, View.canon_unit_zero zeros]
  simp only [View.readAt_eq_ld, harg2.read_unread]

/-- The matrix product's right operand, read back from its scratch. -/
theorem readXw_B : kernelRun0_B.sl.v4129 c arg2 harg2 arg10 x1 = perGroup (fun g => xw (slab x1 g)) := by
  unfold kernelRun0_B.sl.v4129
  rw [xwStores_B]
  simp only [View.readAt_eq_ld, harg2.read_unread]
  rw [View.readCov, View.readAt_eq_ld, View.read_writes_eq_canon _ _ _ (cover_groups _), View.ld_unit_zero zeros, canon_groups]

/-- The block's normalised latent. -/
theorem out4_B : out0_B_4 c i arg1 harg1 arg2 harg2 arg3 harg3 arg4 harg4 arg5 harg5 arg6 harg6 arg7 harg7 arg8 harg8 arg9 harg9 arg10 harg10 hc0 x0 x1 x2 x3 xs0 = k0_pay1 (k0_pay1662 xs0 (perGroup fun g => xw (slab x1 g))) x3 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  rw [View.canon_unit_zero zeros]
  unfold kernelRun0_B.sl.r_333
  rw [readXw_B]
  simp only [View.readAt_eq_ld, harg4.read_unread, harg9.read_unread]
  rw [View.ld_unit_zero zeros, View.ld_unit_zero zeros]

/-- The block's rotary part. -/
theorem out5_B : out0_B_5 c i arg1 harg1 arg2 harg2 arg3 harg3 arg4 harg4 arg5 harg5 arg6 harg6 arg7 harg7 arg8 harg8 arg9 harg9 arg10 harg10 hc0 x0 x1 x2 x3 xs0 = k0_pay2 (k0_pay1661 xs0 (perGroup fun g => xw (slab x1 g))) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  rw [View.canon_unit_zero zeros]
  unfold kernelRun0_B.sl.r_332
  rw [readXw_B]
  simp only [View.readAt_eq_ld, harg9.read_unread]
  rw [View.ld_unit_zero zeros]

end Cert.KernelIdeal.Group

end
-- ==== Proof.Stream.lean ====
/- The kernel's four results in closed form: the weights that the first point dequantises are still in the scratch at every
   later point, so every block of tokens is computed from its own rows of `x` and the same weights. -/
module

public import proofs.«01_k».proof.Proof.PointA
public import proofs.«01_k».proof.Proof.PointB
public import proofs.«01_k».proof.Proof.Gen.KernelIdeal.Value

@[expose] public section

namespace Cert.KernelIdeal.Stream

open Idealize.ShloMosaic Idealize.ShloMosaic.TcCoe Idealize.ShloMosaic.ValueIdx
open Cert.KernelIdeal Cert.KernelIdeal.Gen Cert.KernelIdeal.Group Cert.KernelIdeal.Value

variable {F : FTy → Type} [FloatOps F]

/-- Block `t` of the tokens: rows 512 t to 512 t + 511 of `x` with its two leading axes taken as one. -/
def block (x : Vec F S4x1536x5120 .bf16) (t : Nat) (ht : t < 12) : Vec F S512x5120 .bf16 := fun j =>
  x (ix3 ⟨(512 * t + (j 0).val) / 1536, by have : (j 0).val < 512 := (j 0).isLt; omega⟩
    ⟨(512 * t + (j 0).val) % 1536, Nat.mod_lt _ (by decide)⟩ ⟨(j 1).val, (j 1).isLt⟩)

/-- `gamma` as one row. -/
def row (γ : Vec F S512 .bf16) : Vec F S1x512 .bf16 := fun j => γ (ix1 ⟨(j 1).val, (j 1).isLt⟩)

/-- Row `r` of the reshaped `x` is token `r` of the batch. -/
theorem reshape_x (x : Vec F S4x1536x5120 .bf16) (h : S4x1536x5120.ShapeCasts S6144x5120) (r : Fin 6144) (k : Fin 5120) :
    shapeCast S6144x5120 x h (ix2 r k) =
      x (ix3 ⟨r.val / 1536, by have := r.isLt; omega⟩ ⟨r.val % 1536, Nat.mod_lt _ (by decide)⟩ k) := by
  refine shapeCast_apply _ _ _ _ ?_
  rw [Shape.rowMajor_val_three, Shape.rowMajor_val_two]
  show (r.val / 1536 * 1536 + r.val % 1536) * 5120 + k.val = r.val * 5120 + k.val
  omega

theorem reshape_gamma (γ : Vec F S512 .bf16) (h : S512.ShapeCasts S1x512) (k : Fin 512) :
    shapeCast S1x512 γ h (ix2 0 k) = γ (ix1 k) := by
  refine shapeCast_apply _ _ _ _ ?_
  rw [Shape.rowMajor_val_one, Shape.rowMajor_val_two]
  show k.val = 0 * 512 + k.val
  omega

variable (m : (ℓ : Loc nD τ sig) → Buf (Elt F) ℓ) (c : Dev nD)

theorem V_x : V m c main_v0 = shapeCast S6144x5120 (m ((c : Thread nD τ).loc main_arg0)) shapeCasts_S4x1536x5120_S6144x5120 := by
  show StableHlo.after hostOps0 _ (Proc.devRef .tc main_v0) = _
  after_results
  rfl

theorem V_gamma : V m c main_v1 = shapeCast S1x512 (m ((c : Thread nD τ).loc main_arg3)) shapeCasts_S512_S1x512 := by
  show StableHlo.after hostOps0 _ (Proc.devRef .tc main_v1) = _
  after_results
  rfl

theorem idx0 : ∀ t : Fin cfg0.N, win0_0.index t (0 : Fin 2) = 0 ∧ win0_0.index t (1 : Fin 2) = 0 := by decide
theorem idx1 : ∀ t : Fin cfg0.N, win0_1.index t (0 : Fin 2) = t.val ∧ win0_1.index t (1 : Fin 2) = 0 := by decide
theorem idx2 : ∀ t : Fin cfg0.N, win0_2.index t (0 : Fin 2) = 0 ∧ win0_2.index t (1 : Fin 2) = 0 := by decide
theorem idx3 : ∀ t : Fin cfg0.N, win0_3.index t (0 : Fin 2) = 0 ∧ win0_3.index t (1 : Fin 2) = 0 := by decide

/-- The block of scales that a point sees is the whole table. -/
theorem iblk_s (t : Fin cfg0.N) : (iblk m c 0 t : Vec F S5x40 .f32) = m ((c : Thread nD τ).loc main_arg2) := by
  obtain ⟨e0, e1⟩ := idx0 t
  rw [← V_main_arg2 m c]
  funext j
  show V m c main_arg2 (((cfg0.win 0).blk t).view.emb j) = V m c main_arg2 j
  congr 1
  funext a
  apply Fin.ext
  match a with
  | ⟨0, _⟩ => show win0_0.index t (0 : Fin 2) * 5 + 1 * (j 0).val = (j 0).val; omega
  | ⟨1, _⟩ => show win0_0.index t (1 : Fin 2) * 40 + 1 * (j 1).val = (j 1).val; omega

/-- The block of weights that a point sees is all of them. -/
theorem iblk_w (t : Fin cfg0.N) : (iblk m c 2 t : Vec F S576x5120 .fp8e4m3) = m ((c : Thread nD τ).loc main_arg1) := by
  obtain ⟨e0, e1⟩ := idx2 t
  rw [← V_main_arg1 m c]
  funext j
  show V m c main_arg1 (((cfg0.win 2).blk t).view.emb j) = V m c main_arg1 j
  congr 1
  funext a
  apply Fin.ext
  match a with
  | ⟨0, _⟩ => show win0_2.index t (0 : Fin 2) * 576 + 1 * (j 0).val = (j 0).val; omega
  | ⟨1, _⟩ => show win0_2.index t (1 : Fin 2) * 5120 + 1 * (j 1).val = (j 1).val; omega

/-- Point `t` sees block `t` of the tokens. -/
theorem iblk_x (t : Fin cfg0.N) (ht : t.val < 12) :
    (iblk m c 1 t : Vec F S512x5120 .bf16) = block (m ((c : Thread nD τ).loc main_arg0)) t.val ht := by
  obtain ⟨e0, e1⟩ := idx1 t
  funext j
  have h0 : (j 0).val < 512 := (j 0).isLt
  have h1 : (j 1).val < 5120 := (j 1).isLt
  have hj : ((cfg0.win 1).blk t).view.emb j = ix2 (⟨512 * t.val + (j 0).val, by omega⟩ : Fin 6144) (⟨(j 1).val, h1⟩ : Fin 5120) := by
    funext a
    apply Fin.ext
    match a with
    | ⟨0, _⟩ => show win0_1.index t (0 : Fin 2) * 512 + 1 * (j 0).val = 512 * t.val + (j 0).val; omega
    | ⟨1, _⟩ => show win0_1.index t (1 : Fin 2) * 5120 + 1 * (j 1).val = (j 1).val; omega
  show V m c main_v0 (((cfg0.win 1).blk t).view.emb j) = _
  rw [hj, V_x]
  unfold block
  exact reshape_x (m ((c : Thread nD τ).loc main_arg0)) _ ⟨512 * t.val + (j 0).val, by omega⟩ ⟨(j 1).val, h1⟩

/-- The row of `gamma` that a point sees. -/
theorem iblk_g (t : Fin cfg0.N) : (iblk m c 3 t : Vec F S1x512 .bf16) = row (m ((c : Thread nD τ).loc main_arg3)) := by
  obtain ⟨e0, e1⟩ := idx3 t
  funext j
  have h0 : (j 0).val < 1 := (j 0).isLt
  have h1 : (j 1).val < 512 := (j 1).isLt
  have hj : ((cfg0.win 3).blk t).view.emb j = ix2 (0 : Fin 1) (⟨(j 1).val, h1⟩ : Fin 512) := by
    funext a
    apply Fin.ext
    match a with
    | ⟨0, _⟩ => show win0_3.index t (0 : Fin 2) * 1 + 1 * (j 0).val = 0; omega
    | ⟨1, _⟩ => show win0_3.index t (1 : Fin 2) * 512 + 1 * (j 1).val = (j 1).val; omega
  show V m c main_v1 (((cfg0.win 3).blk t).view.emb j) = _
  rw [hj, V_gamma]
  unfold row
  exact reshape_gamma (m ((c : Thread nD τ).loc main_arg3)) _ ⟨(j 1).val, h1⟩

/-- After every point the scratch holds the dequantised weights. -/
theorem carried : ∀ (n : Nat) (hn : n < cfg0.N),
    (outsAt0 m c n hn).2.2.2.2 = weights (m ((c : Thread nD τ).loc main_arg2)) (m ((c : Thread nD τ).loc main_arg1))
  | 0, hn => by
    rw [outsAt0_A m c ⟨0, hn⟩ rfl]
    dsimp only
    rw [scratch_A, iblk_s, iblk_w]
  | n + 1, hn => by
    have hN : n + 1 < 12 := hn
    rw [outsAt0_B m c ⟨n + 1, hn⟩ (by show ¬(n + 1) % 12 = 0; omega)]
    dsimp only
    unfold sout0_B_0
    exact carried n _

/-- What point `t` computes. -/
theorem outs (t : Fin cfg0.N) (ht : t.val < 12) :
    outsAt0 m c t.val t.isLt =
      (k0_pay1 (k0_pay1662 (weights (m ((c : Thread nD τ).loc main_arg2)) (m ((c : Thread nD τ).loc main_arg1)))
          (perGroup fun g => xw (slab (block (m ((c : Thread nD τ).loc main_arg0)) t.val ht) g)))
          (row (m ((c : Thread nD τ).loc main_arg3))),
        k0_pay2 (k0_pay1661 (weights (m ((c : Thread nD τ).loc main_arg2)) (m ((c : Thread nD τ).loc main_arg1)))
          (perGroup fun g => xw (slab (block (m ((c : Thread nD τ).loc main_arg0)) t.val ht) g))),
        perGroup (fun g => codes (slab (block (m ((c : Thread nD τ).loc main_arg0)) t.val ht) g)),
        scales (slab (block (m ((c : Thread nD τ).loc main_arg0)) t.val ht)),
        weights (m ((c : Thread nD τ).loc main_arg2)) (m ((c : Thread nD τ).loc main_arg1))) := by
  by_cases h0 : t.val % 12 = 0
  · rw [outsAt0_A m c t h0, out4_A, out5_A, out6_A, out7_A, scratch_A, iblk_s, iblk_w, iblk_g, iblk_x m c t ht]
  · rw [outsAt0_B m c t h0, out4_B, out5_B, out6_B, out7_B, iblk_g, iblk_x m c t ht]
    unfold sout0_B_0
    rw [carried]

theorem point_lt (r : Nat) (h : r < 6144) : r / 512 < 12 := by omega

/-- The normalised latent at an element. -/
theorem result0 (i : S6144x512.Idx) :
    G4 m c i = k0_pay1 (k0_pay1662 (weights (m ((c : Thread nD τ).loc main_arg2)) (m ((c : Thread nD τ).loc main_arg1)))
      (perGroup fun g => xw (slab (block (m ((c : Thread nD τ).loc main_arg0)) ((i 0).val / 512) (point_lt _ (i 0).isLt)) g)))
      (row (m ((c : Thread nD τ).loc main_arg3)))
      (ix2 ⟨(i 0).val % 512, Nat.mod_lt _ (by decide)⟩ ⟨(i 1).val, (i 1).isLt⟩) := by
  have h0 : (i 0).val < 6144 := (i 0).isLt
  have h1 : (i 1).val < 512 := (i 1).isLt
  have hp : pt4Of i = (i 0).val / 512 := by show 1 * ((i 0).val / 512 - 0) + 1 * ((i 1).val / 512 - 0) = _; omega
  have hl : loc4Of i = ix2 (⟨(i 0).val % 512, Nat.mod_lt _ (by decide)⟩ : Fin 512) (⟨(i 1).val, h1⟩ : Fin 512) := by
    funext a
    apply Fin.ext
    match a with
    | ⟨0, _⟩ => rfl
    | ⟨1, _⟩ => show (i 1).val % 512 = (i 1).val; omega
  have hlt : (i 0).val / 512 < cfg0.N := by show _ < 12; omega
  unfold G4
  rw [dif_pos (by rw [hp]; exact hlt), ← outsAt0_sweep m c (pt4Of i) (by rw [hp]; exact hlt), hl]
  simp only [hp]
  rw [outs m c ⟨(i 0).val / 512, hlt⟩ (point_lt _ h0)]

/-- The rotary part at an element. -/
theorem result1 (i : S6144x64.Idx) :
    G5 m c i = k0_pay2 (k0_pay1661 (weights (m ((c : Thread nD τ).loc main_arg2)) (m ((c : Thread nD τ).loc main_arg1)))
      (perGroup fun g => xw (slab (block (m ((c : Thread nD τ).loc main_arg0)) ((i 0).val / 512) (point_lt _ (i 0).isLt)) g)))
      (ix2 ⟨(i 0).val % 512, Nat.mod_lt _ (by decide)⟩ ⟨(i 1).val, (i 1).isLt⟩) := by
  have h0 : (i 0).val < 6144 := (i 0).isLt
  have h1 : (i 1).val < 64 := (i 1).isLt
  have hp : pt5Of i = (i 0).val / 512 := by show 1 * ((i 0).val / 512 - 0) + 1 * ((i 1).val / 64 - 0) = _; omega
  have hl : loc5Of i = ix2 (⟨(i 0).val % 512, Nat.mod_lt _ (by decide)⟩ : Fin 512) (⟨(i 1).val, h1⟩ : Fin 64) := by
    funext a
    apply Fin.ext
    match a with
    | ⟨0, _⟩ => rfl
    | ⟨1, _⟩ => show (i 1).val % 64 = (i 1).val; omega
  have hlt : (i 0).val / 512 < cfg0.N := by show _ < 12; omega
  unfold G5
  rw [dif_pos (by rw [hp]; exact hlt), ← outsAt0_sweep m c (pt5Of i) (by rw [hp]; exact hlt), hl]
  simp only [hp]
  rw [outs m c ⟨(i 0).val / 512, hlt⟩ (point_lt _ h0)]

/-- The codes at an element. -/
theorem result2 (i : S6144x5120.Idx) :
    G6 m c i = perGroup (fun g => codes (slab (block (m ((c : Thread nD τ).loc main_arg0)) ((i 0).val / 512) (point_lt _ (i 0).isLt)) g))
      (ix2 ⟨(i 0).val % 512, Nat.mod_lt _ (by decide)⟩ ⟨(i 1).val, (i 1).isLt⟩) := by
  have h0 : (i 0).val < 6144 := (i 0).isLt
  have h1 : (i 1).val < 5120 := (i 1).isLt
  have hp : pt6Of i = (i 0).val / 512 := by show 1 * ((i 0).val / 512 - 0) + 1 * ((i 1).val / 5120 - 0) = _; omega
  have hl : loc6Of i = ix2 (⟨(i 0).val % 512, Nat.mod_lt _ (by decide)⟩ : Fin 512) (⟨(i 1).val, h1⟩ : Fin 5120) := by
    funext a
    apply Fin.ext
    match a with
    | ⟨0, _⟩ => rfl
    | ⟨1, _⟩ => show (i 1).val % 5120 = (i 1).val; omega
  have hlt : (i 0).val / 512 < cfg0.N := by show _ < 12; omega
  unfold G6
  rw [dif_pos (by rw [hp]; exact hlt), ← outsAt0_sweep m c (pt6Of i) (by rw [hp]; exact hlt), hl]
  simp only [hp]
  rw [outs m c ⟨(i 0).val / 512, hlt⟩ (point_lt _ h0)]

/-- The scales at an element. -/
theorem result3 (i : S6144x40.Idx) :
    G7 m c i = scales (slab (block (m ((c : Thread nD τ).loc main_arg0)) ((i 0).val / 512) (point_lt _ (i 0).isLt)))
      (ix2 ⟨(i 0).val % 512, Nat.mod_lt _ (by decide)⟩ ⟨(i 1).val, (i 1).isLt⟩) := by
  have h0 : (i 0).val < 6144 := (i 0).isLt
  have h1 : (i 1).val < 40 := (i 1).isLt
  have hp : pt7Of i = (i 0).val / 512 := by show 1 * ((i 0).val / 512 - 0) + 1 * ((i 1).val / 40 - 0) = _; omega
  have hl : loc7Of i = ix2 (⟨(i 0).val % 512, Nat.mod_lt _ (by decide)⟩ : Fin 512) (⟨(i 1).val, h1⟩ : Fin 40) := by
    funext a
    apply Fin.ext
    match a with
    | ⟨0, _⟩ => rfl
    | ⟨1, _⟩ => show (i 1).val % 40 = (i 1).val; omega
  have hlt : (i 0).val / 512 < cfg0.N := by show _ < 12; omega
  unfold G7
  rw [dif_pos (by rw [hp]; exact hlt), ← outsAt0_sweep m c (pt7Of i) (by rw [hp]; exact hlt), hl]
  simp only [hp]
  rw [outs m c ⟨(i 0).val / 512, hlt⟩ (point_lt _ h0)]

end Cert.KernelIdeal.Stream

end
-- ==== Proof.KerValue.lean ====
/- The kernel's work on a block of tokens, read at an element over the extended reals: it is that of `Spec`, with the
   scale of a group the one the search finds. -/
module

public import proofs.«01_k».proof.Proof.Spec
public import proofs.«01_k».proof.Proof.Stream
public import Idealize.ShloMosaic.Lib.MatmulPlain

@[expose] public section

noncomputable section

namespace Cert.KernelIdeal.At

open Idealize.ShloMosaic Idealize.ShloMosaic.ValueIdx
open Cert.KernelIdeal Cert.KernelIdeal.Gen Cert.KernelIdeal.Group Cert.KernelIdeal.Stream Cert.Spec
open scoped BigOperators

/-- One token's greatest magnitude in a group, on every lane. -/
theorem amax_at (z : Vec Ideal S512x128 .bf16) (i : Fin 512) (l : Fin 128) :
    Group.amax (F := Ideal) z (ix2 i l) = (Finset.univ : Finset (Fin 128)).fold max ⊥ fun l' => max (z (ix2 i l')) (-(z (ix2 i l'))) := by
  have e1 : ∀ (v : FVec Ideal S512x1 .bf16), broadcastTo S512x128 v broadcasts_S512x1_S512x128 (ix2 i l) = v (ix2 i (0 : Fin 1)) := fun v => by
    refine broadcastTo_apply _ _ _ _ ?_
    intro a; match a with
    | ⟨0, _⟩ => rfl
    | ⟨1, _⟩ => rfl
  have e2 : ∀ (v : FVec Ideal S512 .bf16), shapeCast S512x1 v shapeCasts_S512_S512x1 (ix2 i (0 : Fin 1)) = v (ix1 i) := fun v => by
    refine shapeCast_apply _ _ _ _ ?_
    rw [Shape.rowMajor_val_one, Shape.rowMajor_val_two]
    show i.val = i.val * 1 + 0
    omega
  unfold Group.amax
  rw [e1, shapeCast_self, e2, shapeCast_self]
  refine (Ideal.multiReduction_maximumf_single _ _ _ _ _ _).trans ?_
  have hb : (FloatOps.ofBits (F := Ideal) .bf16 0xFF80#16 : EReal) = ⊥ := Cert.Consts.b_bot
  rw [hb]
  refine congrArg (fun f => (Finset.univ : Finset (Fin 128)).fold max ⊥ f) (funext fun (l' : Fin 128) => ?_)
  have : (reduces_S512x128_S512).lift (ix1 i) l' = ix2 i l' := by
    funext a; match a with
    | ⟨0, _⟩ => rfl
    | ⟨1, _⟩ => rfl
  show max (z _) (-(z _)) = _
  rw [this]

/-- A select on a decided comparison is the `if`. -/
theorem pick {q : Prop} [Decidable q] (a b : EReal) : Scalar.select (BitVec.ofBool (decide q)) a b = if q then a else b := by
  by_cases h : q
  · rw [if_pos h, decide_eq_true h]; rfl
  · rw [if_neg h, decide_eq_false h]; rfl

/-- One step of the search at an element. -/
theorem stepS_at (a s : FVec Ideal S512x128 .bf16) (k : BitVec 16) (j : S512x128.Idx) :
    Group.stepS a s k j = Search.stepS (a j) (s j) (Ideal.ofBits .bf16 k) := by
  show Scalar.select (BitVec.ofBool (decide (s j * Ideal.ofBits .bf16 k * Ideal.ofBits .bf16 0x4360#16 ≤ a j)))
    (s j * Ideal.ofBits .bf16 k) (s j) = _
  rw [pick, Consts.b_4360]
  rfl

theorem stepI_at (a s i : FVec Ideal S512x128 .bf16) (k k' : BitVec 16) (j : S512x128.Idx) :
    Group.stepI a s i k k' j = Search.stepI (a j) (s j) (i j) (Ideal.ofBits .bf16 k) (Ideal.ofBits .bf16 k') := by
  show Scalar.select (BitVec.ofBool (decide (s j * Ideal.ofBits .bf16 k * Ideal.ofBits .bf16 0x4360#16 ≤ a j)))
    (i j * Ideal.ofBits .bf16 k') (i j) = _
  rw [pick, Consts.b_4360]
  rfl

theorem splat_at (w : BitVec 16) (j : S512x128.Idx) : splat (F := Ideal) w j = Ideal.ofBits .bf16 w := rfl

/-- The searched scale at an element. -/
theorem s8_at (a : FVec Ideal S512x128 .bf16) (j : S512x128.Idx) : Group.s8 a j = Search.s8 (a j) := by
  unfold Group.s8 Group.s7 Group.s6 Group.s5 Group.s4 Group.s3 Group.s2 Group.s1
  unfold Search.s8 Search.s7 Search.s6 Search.s5 Search.s4 Search.s3 Search.s2 Search.s1
  simp only [stepS_at, splat_at, Consts.b_0100, Consts.b_7C80, Consts.b_5E00, Consts.b_4F00, Consts.b_4780, Consts.b_4380,
    Consts.b_4180, Consts.b_4080, Consts.b_4000]

/-- Its reciprocal at an element. -/
theorem i8_at (a : FVec Ideal S512x128 .bf16) (j : S512x128.Idx) : Group.i8 a j = Search.i8 (a j) := by
  unfold Group.i8 Group.i7 Group.i6 Group.i5 Group.i4 Group.i3 Group.i2 Group.i1
  unfold Group.s7 Group.s6 Group.s5 Group.s4 Group.s3 Group.s2 Group.s1
  unfold Search.i8 Search.i7 Search.i6 Search.i5 Search.i4 Search.i3 Search.i2 Search.i1
  unfold Search.s7 Search.s6 Search.s5 Search.s4 Search.s3 Search.s2 Search.s1
  simp only [stepS_at, stepI_at, splat_at, Consts.b_0100, Consts.b_7E00, Consts.b_7C80, Consts.b_5E00, Consts.b_4F00, Consts.b_4780,
    Consts.b_4380, Consts.b_4180, Consts.b_4080, Consts.b_4000, Consts.b_0280, Consts.b_2100, Consts.b_3000, Consts.b_3780,
    Consts.b_3B80, Consts.b_3D80, Consts.b_3E80, Consts.b_3F00]

theorem scale_at (z : Vec Ideal S512x128 .bf16) (j : S512x128.Idx) : Group.scale (F := Ideal) z j = Search.scale (Group.amax z j) := by
  unfold Group.scale Search.scale
  generalize Group.amax z = a
  show Scalar.select (BitVec.ofBool (decide (Ideal.ofBits .bf16 0x04E0#16 ≤ a j))) (Group.s8 a j) (Ideal.ofBits .bf16 0x3F80#16) = _
  rw [pick, s8_at, Consts.b_04E0, Consts.b_3F80]

theorem inv_at (z : Vec Ideal S512x128 .bf16) (j : S512x128.Idx) : Group.inv (F := Ideal) z j = Search.inv (Group.amax z j) := by
  unfold Group.inv Search.inv
  generalize Group.amax z = a
  show Scalar.select (BitVec.ofBool (decide (Ideal.ofBits .bf16 0x04E0#16 ≤ a j))) (Group.i8 a j) (Ideal.ofBits .bf16 0x3F80#16) = _
  rw [pick, i8_at, Consts.b_04E0, Consts.b_3F80]

theorem codes_at (z : Vec Ideal S512x128 .bf16) (j : S512x128.Idx) :
    Group.codes (F := Ideal) z j = min hi (max lo (z j * Search.inv (Group.amax z j))) := by
  unfold Group.codes
  rw [truncf_apply, minimumf_apply, maximumf_apply, mulf_apply, shapeCast_self, inv_at]
  rfl

theorem xw_at (z : Vec Ideal S512x128 .bf16) (j : S512x128.Idx) :
    Group.xw (F := Ideal) z j = Group.codes z j * Search.scale (Group.amax z j) := by
  unfold Group.xw
  rw [shapeCast_self, mulf_apply, extf_apply, scale_at]

theorem pick_true (a b : EReal) : Scalar.select (BitVec.ofBool true) a b = a := rfl
theorem pick_false (a b : EReal) : Scalar.select (BitVec.ofBool false) a b = b := rfl

/-- A select on a lane's number, at an element. -/
theorem lane_at (q : IVec S512x128 16) (b : BitVec 16) (u v : FVec Ideal S512x128 .bf16) (j : S512x128.Idx) :
    select (cmpi .eq q (broadcast S512x128 b)) u v j = Scalar.select (BitVec.ofBool (q j == b)) (u j) (v j) := rfl

/-- The lane select leaves group `l`'s scale on lane `l`. -/
theorem gathered_at (x : Fin 40 → Vec Ideal S512x128 .bf16) (i : Fin 512) (l : Fin 128) (g : Fin 40) (hg : l.val = g.val) :
    ∀ (n : Nat) (h : n ≤ 40), g.val < n → gathered (F := Ideal) x n h (ix2 i l) = Group.scale (x g) (ix2 i l)
  | 0, _, h0 => absurd h0 (Nat.not_lt_zero _)
  | n + 1, h, hn => by
    have hio : iota .tc S512x128 16 [1] iota_S512x128_d1_w16 (ix2 i l) = BitVec.ofNat 16 l.val := by
      show BitVec.ofNat 16 (0 * 128 + l.val) = _
      rw [Nat.zero_mul, Nat.zero_add]
    have hstep : gathered (F := Ideal) x (n + 1) h (ix2 i l) = Scalar.select (BitVec.ofBool (BitVec.ofNat 16 l.val == BitVec.ofNat 16 n))
        (Group.scale (x ⟨n, h⟩) (ix2 i l)) (gathered x n (Nat.le_of_succ_le h) (ix2 i l)) := by
      rw [← hio]
      exact lane_at _ _ _ _ _
    rw [hstep]
    by_cases hl : l.val = n
    · have : g = ⟨n, h⟩ := Fin.ext (hg.symm.trans hl)
      subst this
      have hb : (BitVec.ofNat 16 l.val == BitVec.ofNat 16 n) = true := by rw [hl]; exact beq_self_eq_true _
      rw [hb]
      exact pick_true _ _
    · have hne : (BitVec.ofNat 16 l.val == BitVec.ofNat 16 n) = false := by
        rw [beq_eq_false_iff_ne]
        intro he
        have := congrArg BitVec.toNat he
        simp only [BitVec.toNat_ofNat] at this
        have hl' := l.isLt
        omega
      rw [hne, pick_false]
      exact gathered_at x i l g hg n _ (by omega)

/-- Row `i` of block `t`. -/
def tok (t : Nat) (ht : t < 12) (i : Fin 512) : Fin 6144 := ⟨512 * t + i.val, by omega⟩

/-- Group `g` of a block holds features 128 g to 128 g + 127 of the block's rows. -/
theorem slab_at (x : Vec Ideal S4x1536x5120 .bf16) (t : Nat) (ht : t < 12) (g : Fin 40) (i : Fin 512) (l : Fin 128) :
    slab (F := Ideal) (block x t ht) g (ix2 i l) = rows x (tok t ht i) (col g l) := by
  unfold rows
  show x _ = x _
  refine congrArg x ?_
  funext a; apply Fin.ext
  match a with
  | ⟨0, _⟩ => show (512 * t + (0 + 1 * i.val)) / 1536 = (512 * t + i.val) / 1536; omega
  | ⟨1, _⟩ => show (512 * t + (0 + 1 * i.val)) % 1536 = (512 * t + i.val) % 1536; omega
  | ⟨2, _⟩ => show 128 * g.val + 1 * l.val = 128 * g.val + l.val; omega

theorem slab_amax (x : Vec Ideal S4x1536x5120 .bf16) (t : Nat) (ht : t < 12) (g : Fin 40) (i : Fin 512) (l : Fin 128) :
    Group.amax (F := Ideal) (slab (block x t ht) g) (ix2 i l) = Spec.amax (rows x) (tok t ht i) g := by
  rw [amax_at]
  simp only [slab_at]
  rfl

theorem grp_col (g : Fin 40) (l : Fin 128) : grp (col g l) = g := Fin.ext (by unfold grp col; dsimp only; omega)

theorem slab_codes (x : Vec Ideal S4x1536x5120 .bf16) (t : Nat) (ht : t < 12) (g : Fin 40) (i : Fin 512) (l : Fin 128) :
    Group.codes (F := Ideal) (slab (block x t ht) g) (ix2 i l) = code Search.inv (rows x) (tok t ht i) (col g l) := by
  rw [codes_at, slab_amax, slab_at]
  unfold code
  rw [grp_col]

theorem slab_xw (x : Vec Ideal S4x1536x5120 .bf16) (t : Nat) (ht : t < 12) (g : Fin 40) (i : Fin 512) (l : Fin 128) :
    Group.xw (F := Ideal) (slab (block x t ht) g) (ix2 i l) = deq Search.scale Search.inv (rows x) (tok t ht i) (col g l) := by
  rw [xw_at, slab_amax, slab_codes]
  unfold deq
  rw [grp_col]

theorem col_grp (k : Fin 5120) : col (grp k) ⟨k.val % 128, Nat.mod_lt _ (by decide)⟩ = k :=
  Fin.ext (by unfold grp col; dsimp only; omega)

/-- The block of codes. -/
theorem block_codes (x : Vec Ideal S4x1536x5120 .bf16) (t : Nat) (ht : t < 12) (i : Fin 512) (k : Fin 5120) :
    perGroup (fun g => Group.codes (F := Ideal) (slab (block x t ht) g)) (ix2 i k) = code Search.inv (rows x) (tok t ht i) k := by
  refine (slab_codes x t ht (grp k) i ⟨k.val % 128, Nat.mod_lt _ (by decide)⟩).trans ?_
  rw [col_grp]

/-- The block of dequantised features. -/
theorem block_xw (x : Vec Ideal S4x1536x5120 .bf16) (t : Nat) (ht : t < 12) (i : Fin 512) (k : Fin 5120) :
    perGroup (fun g => Group.xw (F := Ideal) (slab (block x t ht) g)) (ix2 i k) = deq Search.scale Search.inv (rows x) (tok t ht i) k := by
  refine (slab_xw x t ht (grp k) i ⟨k.val % 128, Nat.mod_lt _ (by decide)⟩).trans ?_
  rw [col_grp]

/-- The block of scales. -/
theorem block_scales (x : Vec Ideal S4x1536x5120 .bf16) (t : Nat) (ht : t < 12) (i : Fin 512) (g : Fin 40) :
    scales (F := Ideal) (slab (block x t ht)) (ix2 i g) = Search.scale (Spec.amax (rows x) (tok t ht i) g) := by
  have e1 : ∀ (v : FVec Ideal S512x128 .bf16), extractStridedSlice S512x40 ![0, 0] v slices_S512x128_o0_0_S512x40 (ix2 i g)
      = v (ix2 i (⟨g.val, by omega⟩ : Fin 128)) := fun v => congrArg v (by
    funext a; match a with
    | ⟨0, _⟩ => exact Fin.ext (Nat.zero_add _)
    | ⟨1, _⟩ => exact Fin.ext (Nat.zero_add _))
  unfold scales
  rw [extf_apply, e1, gathered_at _ i _ g rfl 40 _ g.isLt, scale_at, slab_amax]

/-- The dequantised weights. -/
theorem weights_at (s : Vec Ideal S5x40 .f32) (w : Vec Ideal S576x5120 .fp8e4m3) (o : Fin 576) (k : Fin 5120) :
    weights (F := Ideal) s w (ix2 o k) = wt w s o k := rfl

/-- The product, features down and tokens across. -/
theorem product_at (s : Vec Ideal S5x40 .f32) (w : Vec Ideal S576x5120 .fp8e4m3) (v : Vec Ideal S512x5120 .bf16) (D : Fin 6144 → Fin 5120 → EReal)
    (r : Fin 6144) (i : Fin 512) (hv : ∀ k, v (ix2 i k) = D r k) (o : Fin 576) :
    k0_pay1661 (F := Ideal) (weights s w) v (ix2 o i) = prod D (wt w s) r o := by
  unfold k0_pay1661 prod
  refine (Ideal.matmul_transposedRhs_apply none (weights s w) v _ o i).trans ?_
  have h0 : constant (F := Ideal) S576x512 .f32 0x00000000#32 (ix2 o i) = (0 : EReal) := Ideal.ofBits_zero_f32
  rw [h0, zero_add]
  refine Finset.sum_congr rfl fun k _ => ?_
  rw [hv, weights_at, mul_comm]

/-- The normalised features. -/
theorem norm_at (s : Vec Ideal S5x40 .f32) (w : Vec Ideal S576x5120 .fp8e4m3) (v : Vec Ideal S512x5120 .bf16) (γ : Vec Ideal S512 .bf16)
    (D : Fin 6144 → Fin 5120 → EReal) (r : Fin 6144) (i : Fin 512) (hv : ∀ k, v (ix2 i k) = D r k) (o : Fin 512) :
    k0_pay1 (F := Ideal) (k0_pay1662 (weights s w) v) (row γ) (ix2 i o) = Spec.norm (prod D (wt w s)) γ r o := by
  have e1 : ∀ (Y : FVec Ideal S576x512 .f32) (o : Fin 512),
      extractStridedSlice S512x512 ![0, 0] Y slices_S576x512_o0_0_S512x512 (ix2 o i) = Y (ix2 (head o) i) := fun Y o => congrArg Y (by
    funext a; match a with
    | ⟨0, _⟩ => exact Fin.ext (Nat.zero_add _)
    | ⟨1, _⟩ => exact Fin.ext (Nat.zero_add _))
  have e2 : ∀ (z : FVec Ideal S1x512 .f32) (a b : Fin 512), broadcastTo S512x512 z broadcasts_S1x512_S512x512 (ix2 a b) = z (ix2 (0 : Fin 1) b) := fun z a b => by
    refine broadcastTo_apply _ _ _ _ ?_
    intro a; match a with
    | ⟨0, _⟩ => rfl
    | ⟨1, _⟩ => rfl
  have e3 : ∀ (z : FVec Ideal S512 .f32), shapeCast S1x512 z shapeCasts_S512_S1x512 (ix2 (0 : Fin 1) i) = z (ix1 i) := fun z => by
    refine shapeCast_apply _ _ _ _ ?_
    rw [Shape.rowMajor_val_one, Shape.rowMajor_val_two]
    show i.val = 0 * 512 + i.val
    omega
  have e4 : ∀ (z : FVec Ideal S512x512 .f32), transpose S512x512 [1, 0] z transposes_S512x512_p1_0_S512x512 (ix2 i o) = z (ix2 o i) := fun z => by
    refine transpose_apply _ _ _ _ _ ?_
    intro a; match a with
    | ⟨0, _⟩ => rfl
    | ⟨1, _⟩ => rfl
  have e6 : ∀ (z : FVec Ideal S512x512 .f32), multiReduction (F := Ideal) .add [0] S512 z 0x00000000#32 reduces_S512x512_S512 (.inl rfl) rfl (ix1 i)
      = ∑ j : Fin 512, z (ix2 j i) := fun z => by
    refine (Ideal.multiReduction_add_single _ _ _ _ _ _).trans ?_
    refine Finset.sum_congr rfl fun j _ => congrArg z ?_
    funext a; match a with
    | ⟨0, _⟩ => rfl
    | ⟨1, _⟩ => rfl
  have e7 : ∀ (z : FVec Ideal S1x512 .f32), rsqrt z (ix2 (0 : Fin 1) i) = Ideal.rsqrt (z (ix2 (0 : Fin 1) i)) := fun z => rfl
  have e8 : (Scalar.ofBits .f32 0x3B000000#32 : Ideal .f32) = ((1 / 512 : ℝ) : EReal) := Consts.f_512inv
  have e9 : row γ (ix2 (0 : Fin 1) o) = γ (ix1 o) := rfl
  unfold k0_pay1 k0_pay1662
  rw [truncf_apply, mulf_apply, e4, mulf_apply, e1, e2, e2, extf_apply, shapeCast_self, e9, e7, addf_apply, mulf_apply, e3, e6,
    broadcast_apply, broadcast_apply, e8]
  simp only [mulf_apply, e1, product_at s w v D r i hv]
  rfl

/-- The rotary part. -/
theorem rope_at (s : Vec Ideal S5x40 .f32) (w : Vec Ideal S576x5120 .fp8e4m3) (v : Vec Ideal S512x5120 .bf16) (D : Fin 6144 → Fin 5120 → EReal)
    (r : Fin 6144) (i : Fin 512) (hv : ∀ k, v (ix2 i k) = D r k) (o : Fin 64) :
    k0_pay2 (F := Ideal) (k0_pay1661 (weights s w) v) (ix2 i o) = prod D (wt w s) r (tail o) := by
  have e1 : ∀ (Y : FVec Ideal S576x512 .f32),
      extractStridedSlice S64x512 ![512, 0] Y slices_S576x512_o512_0_S64x512 (ix2 o i) = Y (ix2 (tail o) i) := fun Y => congrArg Y (by
    funext a; match a with
    | ⟨0, _⟩ => rfl
    | ⟨1, _⟩ => exact Fin.ext (Nat.zero_add _))
  have e2 : ∀ (z : FVec Ideal S64x512 .f32), transpose S512x64 [1, 0] z transposes_S64x512_p1_0_S512x64 (ix2 i o) = z (ix2 o i) := fun z => by
    refine transpose_apply _ _ _ _ _ ?_
    intro a; match a with
    | ⟨0, _⟩ => rfl
    | ⟨1, _⟩ => rfl
  unfold k0_pay2
  rw [truncf_apply, e2, e1, product_at s w v D r i hv]

end Cert.KernelIdeal.At

end
-- ==== Proof.RefValue.lean ====
/- The reference's four results, read at an element: they are those of `Spec`, with the scale of a group two to the
   exponent `floor (log₂ (a / 448)) + 1`. -/
module

public import proofs.«01_k».proof.Proof.Spec
public import proofs.«01_k».proof.Proof.Gen.ReferenceIdeal.Value
public import Idealize.ShloMosaic.Lib.MatmulPlain
public import Idealize.ShloMosaic.Lib.Pipeline.Value

@[expose] public section

noncomputable section

namespace Cert.ReferenceIdeal.At

open Idealize.ShloMosaic Idealize.ShloMosaic.ValueIdx Cert.ReferenceIdeal Cert.ReferenceIdeal.Gen Cert.Spec
open scoped BigOperators

/-- The activations cut into groups: element `(r, g, l)` is feature `128 g + l` of row `r`. -/
theorem pay4_at (x : Vec Ideal S4x1536x5120 .bf16) (r : Fin 6144) (g : Fin 40) (l : Fin 128) :
    k0_pay4 (F := Ideal) x (ix3 r g l) = rows x r (col g l) := by
  unfold k0_pay4 rows
  refine shapeCast_apply _ _ _ _ ?_
  rw [Shape.rowMajor_val_three, Shape.rowMajor_val_three]
  show ((r.val / 1536) * 1536 + r.val % 1536) * 5120 + (128 * g.val + l.val) = (r.val * 40 + g.val) * 128 + l.val
  omega

/-- The greatest magnitude of a group. -/
theorem max_at (x : Vec Ideal S4x1536x5120 .bf16) (r : Fin 6144) (g : Fin 40) :
    multiReduction (F := Ideal) .maximumf [2] S6144x40 (absf (k0_pay4 x)) 0xFF80#16 reduces_S6144x40x128_S6144x40 (.inr rfl) rfl (ix2 r g)
      = amax (rows x) r g := by
  refine (Ideal.multiReduction_maximumf_single _ _ _ _ _ _).trans ?_
  unfold amax
  have hb : (FloatOps.ofBits (F := Ideal) .bf16 0xFF80#16 : EReal) = ⊥ := Cert.Consts.b_bot
  rw [hb]
  refine congrArg (fun f => (Finset.univ : Finset (Fin 128)).fold max ⊥ f) (funext fun (l : Fin 128) => ?_)
  have : (reduces_S6144x40x128_S6144x40).lift (ix2 r g) l = ix3 r g l := by
    funext a; match a with
    | ⟨0, _⟩ => rfl
    | ⟨1, _⟩ => rfl
    | ⟨2, _⟩ => rfl
  show max (k0_pay4 x _) (-(k0_pay4 x _)) = _
  rw [this, pay4_at]

/-- The exponent of a group's scale. -/
theorem pay5_at (x : Vec Ideal S4x1536x5120 .bf16) (r : Fin 6144) (g : Fin 40) :
    k0_pay5 (F := Ideal) x (ix2 r g) = Search.expo (amax (rows x) r g) := by
  have hln : (Named.named (F := Ideal) (φ := .f32) κ "ln_2" 0x3F317218#32 : EReal) = ((Real.log 2 : ℝ) : EReal) :=
    IdealRules.named_const.ideal_named_scalar _ _ _ _ rfl
  rw [← max_at]
  generalize hA : multiReduction (F := Ideal) .maximumf [2] S6144x40 (absf (k0_pay4 x)) 0xFF80#16 reduces_S6144x40x128_S6144x40 (.inr rfl) rfl = A
  unfold k0_pay5
  rw [hA]
  show Scalar.select (BitVec.ofBool (decide (Ideal.div (A (ix2 r g)) (Ideal.ofBits .f32 0x43E00000#32) < Ideal.ofBits .f32 0x00800000#32)))
    (Ideal.ofBits .f32 0x00000000#32)
    (Ideal.liftRound Int.floor (Ideal.div (Ideal.log (Ideal.div (A (ix2 r g)) (Ideal.ofBits .f32 0x43E00000#32)))
      (Named.named (F := Ideal) (φ := .f32) κ "ln_2" 0x3F317218#32)) + Ideal.ofBits .f32 0x3F800000#32) = _
  rw [hln, Consts.f_448, Consts.f_tiny, Consts.f_one, Ideal.ofBits_zero_f32]
  unfold Search.expo
  by_cases h : Ideal.div (A (ix2 r g)) ((448 : ℝ) : EReal) < (((2 : ℝ) ^ (-126 : ℤ) : ℝ) : EReal)
  · rw [if_pos h, decide_eq_true h]; rfl
  · rw [if_neg h, decide_eq_false h]; rfl

/-- The scale of a group, and its reciprocal, as the reference finds them. -/
def scaleR (a : EReal) : EReal := Ideal.exp2 (Search.expo a)
/-- The reciprocal. -/
def invR (a : EReal) : EReal := Ideal.exp2 (0 - Search.expo a)

theorem pay6_at (x : Vec Ideal S4x1536x5120 .bf16) (r : Fin 6144) (g : Fin 40) :
    k0_pay6 (F := Ideal) x (ix2 r g) = scaleR (amax (rows x) r g) := by
  unfold scaleR
  rw [← pay5_at]; rfl

/-- A value per group, spread over the group's features. -/
theorem spread_at (v : FVec Ideal S6144x40 .bf16) (r : Fin 6144) (g : Fin 40) (l : Fin 128) :
    broadcastTo S6144x40x128 (shapeCast S6144x40x1 v shapeCasts_S6144x40_S6144x40x1) broadcasts_S6144x40x1_S6144x40x128 (ix3 r g l)
      = v (ix2 r g) := by
  refine (broadcastTo_apply _ _ _ (ix3 r g 0) ?_).trans ?_
  · intro a; match a with
    | ⟨0, _⟩ => rfl
    | ⟨1, _⟩ => rfl
    | ⟨2, _⟩ => rfl
  · refine shapeCast_apply _ _ _ _ ?_
    rw [Shape.rowMajor_val_two, Shape.rowMajor_val_three]
    show r.val * 40 + g.val = (r.val * 40 + g.val) * 1 + 0
    omega

theorem grp_col (g : Fin 40) (l : Fin 128) : grp (col g l) = g := Fin.ext (by unfold grp col; dsimp only; omega)

/-- The codes, by group. -/
theorem pay7_at (x : Vec Ideal S4x1536x5120 .bf16) (r : Fin 6144) (g : Fin 40) (l : Fin 128) :
    k0_pay7 (F := Ideal) x (ix3 r g l) = code invR (rows x) r (col g l) := by
  have h0 : Ideal.ofBits .f32 0x00000000#32 = 0 := Ideal.ofBits_zero_f32
  unfold k0_pay7
  have hs := spread_at (truncf .bf16 (exp2 (subf (broadcast S6144x40 (Scalar.ofBits .f32 0x00000000#32 : Ideal .f32)) (k0_pay5 x))) bitsLt_bf16_f32) r g l
  show min hi (max lo (k0_pay4 x (ix3 r g l) * broadcastTo S6144x40x128 (shapeCast S6144x40x1 _ _) _ (ix3 r g l))) = _
  rw [hs, pay4_at]
  unfold code invR
  rw [grp_col, ← pay5_at]
  show min hi (max lo (_ * Ideal.exp2 (Ideal.ofBits .f32 0x00000000#32 - _))) = _
  rw [h0]

/-- A row's features, cut into groups and joined again. -/
theorem join_at {φ : FTy} (v : FVec Ideal S6144x40x128 φ) (r : Fin 6144) (k : Fin 5120) :
    shapeCast S6144x5120 v shapeCasts_S6144x40x128_S6144x5120 (ix2 r k) = v (ix3 r (grp k) ⟨k.val % 128, Nat.mod_lt _ (by decide)⟩) := by
  refine shapeCast_apply _ _ _ _ ?_
  rw [Shape.rowMajor_val_three, Shape.rowMajor_val_two]
  show (r.val * 40 + k.val / 128) * 128 + k.val % 128 = r.val * 5120 + k.val
  omega

theorem col_grp (k : Fin 5120) : col (grp k) ⟨k.val % 128, Nat.mod_lt _ (by decide)⟩ = k :=
  Fin.ext (by unfold grp col; dsimp only; omega)

/-- The third result: the codes. -/
theorem pay8_at (x : Vec Ideal S4x1536x5120 .bf16) (r : Fin 6144) (k : Fin 5120) :
    k0_pay8 (F := Ideal) x (ix2 r k) = code invR (rows x) r k := by
  unfold k0_pay8
  rw [join_at, pay7_at, col_grp]

/-- The dequantised features. -/
theorem pay9_at (x : Vec Ideal S4x1536x5120 .bf16) (r : Fin 6144) (k : Fin 5120) :
    k0_pay9 (F := Ideal) x (ix2 r k) = deq scaleR invR (rows x) r k := by
  unfold k0_pay9
  rw [join_at]
  show k0_pay7 x _ * broadcastTo S6144x40x128 (shapeCast S6144x40x1 _ _) _ _ = _
  rw [spread_at, pay7_at, col_grp]
  show _ * k0_pay6 x _ = _
  rw [pay6_at]; rfl

/-- A block's scale, repeated over the block's 128 rows and 128 columns. -/
theorem repeat_at (s : Vec Ideal S5x40 .f32) (o : Fin 576) (k : Fin 5120) :
    extractStridedSlice S576x5120 ![0, 0]
      (shapeCast S640x5120
        (broadcastTo S640x40x128
          (shapeCast S640x40x1
            (shapeCast S640x40
              (broadcastTo S5x128x40 (shapeCast S5x1x40 s shapeCasts_S5x40_S5x1x40) broadcasts_S5x1x40_S5x128x40)
              shapeCasts_S5x128x40_S640x40)
            shapeCasts_S640x40_S640x40x1)
          broadcasts_S640x40x1_S640x40x128)
        shapeCasts_S640x40x128_S640x5120)
      slices_S640x5120_o0_0_S576x5120 (ix2 o k) = s (ix2 (⟨o.val / 128, by omega⟩ : Fin 5) (grp k)) := by
  have e1 : ∀ (v : FVec Ideal S640x5120 .f32), extractStridedSlice S576x5120 ![0, 0] v slices_S640x5120_o0_0_S576x5120 (ix2 o k)
      = v (ix2 (⟨o.val, by omega⟩ : Fin 640) k) := fun v => congrArg v (by
    funext a; match a with
    | ⟨0, _⟩ => exact Fin.ext (Nat.zero_add _)
    | ⟨1, _⟩ => exact Fin.ext (Nat.zero_add _))
  have e2 : ∀ (v : FVec Ideal S640x40x128 .f32) (q : Fin 640), shapeCast S640x5120 v shapeCasts_S640x40x128_S640x5120 (ix2 q k)
      = v (ix3 q (grp k) (⟨k.val % 128, by omega⟩ : Fin 128)) := fun v q => by
    refine shapeCast_apply _ _ _ _ ?_
    rw [Shape.rowMajor_val_three, Shape.rowMajor_val_two]
    show (q.val * 40 + k.val / 128) * 128 + k.val % 128 = q.val * 5120 + k.val
    omega
  have e3 : ∀ (v : FVec Ideal S640x40x1 .f32) (q : Fin 640) (g : Fin 40) (l : Fin 128),
      broadcastTo S640x40x128 v broadcasts_S640x40x1_S640x40x128 (ix3 q g l) = v (ix3 q g (0 : Fin 1)) := fun v q g l => by
    refine broadcastTo_apply _ _ _ _ ?_
    intro a; match a with
    | ⟨0, _⟩ => rfl
    | ⟨1, _⟩ => rfl
    | ⟨2, _⟩ => rfl
  have e4 : ∀ (v : FVec Ideal S640x40 .f32) (q : Fin 640) (g : Fin 40),
      shapeCast S640x40x1 v shapeCasts_S640x40_S640x40x1 (ix3 q g (0 : Fin 1)) = v (ix2 q g) := fun v q g => by
    refine shapeCast_apply _ _ _ _ ?_
    rw [Shape.rowMajor_val_three, Shape.rowMajor_val_two]
    show q.val * 40 + g.val = (q.val * 40 + g.val) * 1 + 0
    omega
  have e5 : ∀ (v : FVec Ideal S5x128x40 .f32) (q : Fin 640) (g : Fin 40), shapeCast S640x40 v shapeCasts_S5x128x40_S640x40 (ix2 q g)
      = v (ix3 (⟨q.val / 128, by omega⟩ : Fin 5) (⟨q.val % 128, by omega⟩ : Fin 128) g) := fun v q g => by
    refine shapeCast_apply _ _ _ _ ?_
    rw [Shape.rowMajor_val_three, Shape.rowMajor_val_two]
    show (q.val / 128 * 128 + q.val % 128) * 40 + g.val = q.val * 40 + g.val
    omega
  have e6 : ∀ (v : FVec Ideal S5x1x40 .f32) (b : Fin 5) (q : Fin 128) (g : Fin 40),
      broadcastTo S5x128x40 v broadcasts_S5x1x40_S5x128x40 (ix3 b q g) = v (ix3 b (0 : Fin 1) g) := fun v b q g => by
    refine broadcastTo_apply _ _ _ _ ?_
    intro a; match a with
    | ⟨0, _⟩ => rfl
    | ⟨1, _⟩ => rfl
    | ⟨2, _⟩ => rfl
  have e7 : ∀ (v : FVec Ideal S5x40 .f32) (b : Fin 5) (g : Fin 40),
      shapeCast S5x1x40 v shapeCasts_S5x40_S5x1x40 (ix3 b (0 : Fin 1) g) = v (ix2 b g) := fun v b g => by
    refine shapeCast_apply _ _ _ _ ?_
    rw [Shape.rowMajor_val_three, Shape.rowMajor_val_two]
    show b.val * 40 + g.val = (b.val * 1 + 0) * 40 + g.val
    omega
  rw [e1, e2, e3, e4, e5, e6, e7]

/-- The product. -/
theorem pay1_at (v : FVec Ideal S6144x5120 .bf16) (s : Vec Ideal S5x40 .f32) (w : Vec Ideal S576x5120 .fp8e4m3) (r : Fin 6144) (o : Fin 576) :
    k0_pay1 (F := Ideal) v s w (ix2 r o) = prod (fun r k => v (ix2 r k)) (wt w s) r o := by
  unfold k0_pay1 prod
  refine (Ideal.matmul_transposedRhs_apply none v _ _ r o).trans ?_
  have h0 : constant (F := Ideal) S6144x576 .f32 0x00000000#32 (ix2 r o) = (0 : EReal) := Ideal.ofBits_zero_f32
  rw [h0, zero_add]
  refine Finset.sum_congr rfl fun k _ => congrArg (v (ix2 r k) * ·) ?_
  rw [mulf_apply, extf_apply, truncf_apply, repeat_at]; rfl

/-- The normalised features, from the product. -/
theorem pay2_at (v : FVec Ideal S6144x5120 .bf16) (s : Vec Ideal S5x40 .f32) (w : Vec Ideal S576x5120 .fp8e4m3) (γ : Vec Ideal S512 .bf16)
    (r : Fin 6144) (o : Fin 512) :
    k0_pay2 (F := Ideal) v s w γ (ix2 r o) = norm (prod (fun r k => v (ix2 r k)) (wt w s)) γ r o := by
  have e1 : ∀ (Y : FVec Ideal S6144x576 .f32) (r : Fin 6144) (o : Fin 512),
      extractStridedSlice S6144x512 ![0, 0] Y slices_S6144x576_o0_0_S6144x512 (ix2 r o) = Y (ix2 r (head o)) := fun Y r o => congrArg Y (by
    funext a; match a with
    | ⟨0, _⟩ => exact Fin.ext (Nat.zero_add _)
    | ⟨1, _⟩ => exact Fin.ext (Nat.zero_add _))
  have e2 : ∀ (z : FVec Ideal S6144x1 .f32), broadcastTo S6144x512 z broadcasts_S6144x1_S6144x512 (ix2 r o) = z (ix2 r (0 : Fin 1)) := fun z => by
    refine broadcastTo_apply _ _ _ _ ?_
    intro a; match a with
    | ⟨0, _⟩ => rfl
    | ⟨1, _⟩ => rfl
  have e3 : ∀ (z : FVec Ideal S6144 .f32), shapeCast S6144x1 z shapeCasts_S6144_S6144x1 (ix2 r (0 : Fin 1)) = z (ix1 r) := fun z => by
    refine shapeCast_apply _ _ _ _ ?_
    rw [Shape.rowMajor_val_one, Shape.rowMajor_val_two]
    show r.val = r.val * 1 + 0
    omega
  have e4 : ∀ (z : FVec Ideal S1x512 .f32), broadcastTo S6144x512 z broadcasts_S1x512_S6144x512 (ix2 r o) = z (ix2 (0 : Fin 1) o) := fun z => by
    refine broadcastTo_apply _ _ _ _ ?_
    intro a; match a with
    | ⟨0, _⟩ => rfl
    | ⟨1, _⟩ => rfl
  have e5 : ∀ (z : FVec Ideal S512 .f32), shapeCast S1x512 z shapeCasts_S512_S1x512 (ix2 (0 : Fin 1) o) = z (ix1 o) := fun z => by
    refine shapeCast_apply _ _ _ _ ?_
    rw [Shape.rowMajor_val_one, Shape.rowMajor_val_two]
    show o.val = 0 * 512 + o.val
    omega
  have e6 : ∀ (z : FVec Ideal S6144x512 .f32), multiReduction (F := Ideal) .add [1] S6144 z 0x00000000#32 reduces_S6144x512_S6144 (.inl rfl) rfl (ix1 r)
      = ∑ j : Fin 512, z (ix2 r j) := fun z => by
    refine (Ideal.multiReduction_add_single _ _ _ _ _ _).trans ?_
    refine Finset.sum_congr rfl fun j _ => congrArg z ?_
    funext a; match a with
    | ⟨0, _⟩ => rfl
    | ⟨1, _⟩ => rfl
  have hp : (fun r o => k0_pay1 (F := Ideal) v s w (ix2 r o)) = prod (fun r k => v (ix2 r k)) (wt w s) := by
    funext r o; exact pay1_at v s w r o
  rw [← hp]
  unfold k0_pay2
  have e7 : ∀ (z : FVec Ideal S6144x1 .f32), rsqrt z (ix2 r (0 : Fin 1)) = Ideal.rsqrt (z (ix2 r (0 : Fin 1))) := fun z => rfl
  have e8 : (Scalar.ofBits .f32 0x44000000#32 : Ideal .f32) = ((512 : ℝ) : EReal) := Consts.f_512
  rw [truncf_apply, mulf_apply, mulf_apply, e1, e2, e4, e5, extf_apply, e7, addf_apply, divf_apply, e3, e6, broadcast_apply,
    broadcast_apply, e8, Ideal.div_coe (by norm_num)]
  unfold Spec.norm
  simp only [mulf_apply, e1]
  rfl

/-- The last 64 features of the product. -/
theorem pay3_at (v : FVec Ideal S6144x5120 .bf16) (s : Vec Ideal S5x40 .f32) (w : Vec Ideal S576x5120 .fp8e4m3) (r : Fin 6144) (o : Fin 64) :
    k0_pay3 (F := Ideal) v s w (ix2 r o) = prod (fun r k => v (ix2 r k)) (wt w s) r (tail o) := by
  rw [← pay1_at]
  have e1 : ∀ (Y : FVec Ideal S6144x576 .f32),
      extractStridedSlice S6144x64 ![0, 512] Y slices_S6144x576_o0_512_S6144x64 (ix2 r o) = Y (ix2 r (tail o)) := fun Y => congrArg Y (by
    funext a; match a with
    | ⟨0, _⟩ => exact Fin.ext (Nat.zero_add _)
    | ⟨1, _⟩ => rfl)
  unfold k0_pay3
  rw [truncf_apply, e1]

end Cert.ReferenceIdeal.At

end
-- ==== Proof.Equal.lean ====
/- The kernel's four results are the reference's, for activations that are finite: then the greatest magnitude of a group
   is below 448 · 2¹²⁰, and the searched scale is the one the reference states. -/
module

public import proofs.«01_k».proof.Proof.KerValue
public import proofs.«01_k».proof.Proof.RefValue
public import proofs.«01_k».proof.Proof.Gen.Pre_finite

@[expose] public section

noncomputable section

namespace Cert.Equal

open Idealize.ShloMosaic Idealize.ShloMosaic.TcCoe Idealize.ShloMosaic.ValueIdx Cert.Spec

/-- The precondition bounds every activation's magnitude. -/
theorem bounded (x : FVec Ideal ⟨3, ![4, 1536, 5120]⟩ .bf16) (w : FVec Ideal ⟨2, ![576, 5120]⟩ .fp8e4m3)
    (s : FVec Ideal ⟨2, ![5, 40]⟩ .f32) (γ : FVec Ideal ⟨1, ![512]⟩ .bf16)
    (h : Cert.Pre_finite.fn (F := Ideal) x w s γ = fun _ => 1#1) (r : Fin 6144) (k : Fin 5120) :
    max (rows x r k) (-(rows x r k)) ≤ ((255 * (2 : ℝ) ^ (120 : ℤ) : ℝ) : EReal) := by
  unfold rows
  generalize ix3 (⟨r.val / 1536, _⟩ : Fin 4) (⟨r.val % 1536, _⟩ : Fin 1536) k = i
  have hi : BitVec.ofBool (decide (max (x i) (-(x i)) ≤ Ideal.ofBits .bf16 0x7F7F#16)) = 1#1 := congrFun h i
  rw [Consts.b_7F7F] at hi
  by_contra hc
  rw [decide_eq_false hc] at hi
  exact absurd hi (by decide)

/-- A bf16 number's group has a scale that the search reaches. -/
theorem reach : (255 * (2 : ℝ) ^ (120 : ℤ)) < 448 * (2 : ℝ) ^ (120 : ℤ) :=
  mul_lt_mul_of_pos_right (by norm_num) (by positivity)

section
variable {X : Fin 6144 → Fin 5120 → EReal} (hX : ∀ r k, max (X r k) (-(X r k)) ≤ ((255 * (2 : ℝ) ^ (120 : ℤ) : ℝ) : EReal))
include hX

theorem scale_agree (r : Fin 6144) (g : Fin 40) : Search.scale (amax X r g) = ReferenceIdeal.At.scaleR (amax X r g) := by
  obtain ⟨a, ha, hle⟩ := amax_real X _ hX r g
  rw [ha]
  exact (Search.scale_eq a (lt_of_le_of_lt hle reach)).1

theorem inv_agree (r : Fin 6144) (g : Fin 40) : Search.inv (amax X r g) = ReferenceIdeal.At.invR (amax X r g) := by
  obtain ⟨a, ha, hle⟩ := amax_real X _ hX r g
  rw [ha]
  exact (Search.scale_eq a (lt_of_le_of_lt hle reach)).2

theorem code_agree : code Search.inv X = code ReferenceIdeal.At.invR X := code_congr (inv_agree hX)

theorem deq_agree : deq Search.scale Search.inv X = deq ReferenceIdeal.At.scaleR ReferenceIdeal.At.invR X :=
  deq_congr (inv_agree hX) (scale_agree hX)

end

/-- A row of the result is row `r % 512` of block `r / 512`. -/
theorem tok_split (r : Fin 6144) (h : r.val / 512 < 12) :
    KernelIdeal.At.tok (r.val / 512) h ⟨r.val % 512, Nat.mod_lt _ (by decide)⟩ = r :=
  Fin.ext (by unfold KernelIdeal.At.tok; dsimp only; omega)

variable (m : (ℓ : Loc KernelIdeal.nD KernelIdeal.τ KernelIdeal.sig) → Buf (Elt Ideal) ℓ) (c : Dev KernelIdeal.nD)
  (x : FVec Ideal ⟨3, ![4, 1536, 5120]⟩ .bf16) (w : FVec Ideal ⟨2, ![576, 5120]⟩ .fp8e4m3)
  (s : FVec Ideal ⟨2, ![5, 40]⟩ .f32) (γ : FVec Ideal ⟨1, ![512]⟩ .bf16)
  (hx : m ((c : Thread KernelIdeal.nD KernelIdeal.τ).loc KernelIdeal.main_arg0) = x)
  (hw : m ((c : Thread KernelIdeal.nD KernelIdeal.τ).loc KernelIdeal.main_arg1) = w)
  (hs : m ((c : Thread KernelIdeal.nD KernelIdeal.τ).loc KernelIdeal.main_arg2) = s)
  (hγ : m ((c : Thread KernelIdeal.nD KernelIdeal.τ).loc KernelIdeal.main_arg3) = γ)
  (h : Cert.Pre_finite.fn (F := Ideal) x w s γ = fun _ => 1#1)

include hx hw hs hγ h

/-- The normalised latents agree. -/
theorem result0 : KernelIdeal.Value.G4 m c = ReferenceIdeal.Value.G4 x w s γ := by
  funext i
  obtain ⟨r, o, rfl⟩ : ∃ (r : Fin 6144) (o : Fin 512), i = ix2 r o := ⟨i 0, i 1, eq_ix2 i⟩
  have hX := bounded x w s γ h
  have hr : r.val / 512 < 12 := KernelIdeal.Stream.point_lt _ r.isLt
  rw [KernelIdeal.Stream.result0, hx, hw, hs, hγ]
  refine (KernelIdeal.At.norm_at s w _ γ (deq Search.scale Search.inv (rows x))
    (KernelIdeal.At.tok (r.val / 512) hr ⟨r.val % 512, Nat.mod_lt _ (by decide)⟩) _ (KernelIdeal.At.block_xw x (r.val / 512) hr _) o).trans ?_
  rw [tok_split, deq_agree hX]
  refine Eq.symm ((ReferenceIdeal.At.pay2_at _ s w γ r o).trans ?_)
  have e : (fun r k => ReferenceIdeal.Gen.k0_pay10 (F := Ideal) x w s γ (ix2 r k))
      = deq ReferenceIdeal.At.scaleR ReferenceIdeal.At.invR (rows x) := by
    funext r k
    unfold ReferenceIdeal.Gen.k0_pay10
    rw [View.ld_unit_zero ReferenceIdeal.Value.hz0]
    exact ReferenceIdeal.At.pay9_at x r k
  rw [e]

/-- The rotary parts agree. -/
theorem result1 : KernelIdeal.Value.G5 m c = ReferenceIdeal.Value.G5 x w s γ := by
  funext i
  obtain ⟨r, o, rfl⟩ : ∃ (r : Fin 6144) (o : Fin 64), i = ix2 r o := ⟨i 0, i 1, eq_ix2 i⟩
  have hX := bounded x w s γ h
  have hr : r.val / 512 < 12 := KernelIdeal.Stream.point_lt _ r.isLt
  rw [KernelIdeal.Stream.result1, hx, hw, hs]
  refine (KernelIdeal.At.rope_at s w _ (deq Search.scale Search.inv (rows x))
    (KernelIdeal.At.tok (r.val / 512) hr ⟨r.val % 512, Nat.mod_lt _ (by decide)⟩) _ (KernelIdeal.At.block_xw x (r.val / 512) hr _) o).trans ?_
  rw [tok_split, deq_agree hX]
  refine Eq.symm ((ReferenceIdeal.At.pay3_at _ s w r o).trans ?_)
  have e : (fun r k => ReferenceIdeal.Gen.k0_pay10 (F := Ideal) x w s γ (ix2 r k))
      = deq ReferenceIdeal.At.scaleR ReferenceIdeal.At.invR (rows x) := by
    funext r k
    unfold ReferenceIdeal.Gen.k0_pay10
    rw [View.ld_unit_zero ReferenceIdeal.Value.hz0]
    exact ReferenceIdeal.At.pay9_at x r k
  rw [e]

/-- The codes agree. -/
theorem result2 : KernelIdeal.Value.G6 m c = ReferenceIdeal.Value.G6 x w s γ := by
  funext i
  obtain ⟨r, k, rfl⟩ : ∃ (r : Fin 6144) (k : Fin 5120), i = ix2 r k := ⟨i 0, i 1, eq_ix2 i⟩
  have hX := bounded x w s γ h
  have hr : r.val / 512 < 12 := KernelIdeal.Stream.point_lt _ r.isLt
  rw [KernelIdeal.Stream.result2, hx]
  refine (KernelIdeal.At.block_codes x (r.val / 512) hr ⟨r.val % 512, Nat.mod_lt _ (by decide)⟩ k).trans ?_
  rw [tok_split, code_agree hX]
  exact (ReferenceIdeal.At.pay8_at x r k).symm

/-- The scales agree. -/
theorem result3 : KernelIdeal.Value.G7 m c = ReferenceIdeal.Value.G7 x w s γ := by
  funext i
  obtain ⟨r, g, rfl⟩ : ∃ (r : Fin 6144) (g : Fin 40), i = ix2 r g := ⟨i 0, i 1, eq_ix2 i⟩
  have hX := bounded x w s γ h
  have hr : r.val / 512 < 12 := KernelIdeal.Stream.point_lt _ r.isLt
  rw [KernelIdeal.Stream.result3, hx]
  refine (KernelIdeal.At.block_scales x (r.val / 512) hr ⟨r.val % 512, Nat.mod_lt _ (by decide)⟩ g).trans ?_
  rw [tok_split, scale_agree hX]
  exact (ReferenceIdeal.At.pay6_at x r g).symm

end Cert.Equal

end
-- ==== Proof.lean ====
/- The proof of the certificate's claim. The four programs run to the end, leave their arguments as they were and every
   semaphore at zero (the generated frames); the two ideal programs are the printed ones read over the extended reals; and
   on finite activations the kernel's four results are the reference's, by the closed forms of both (`Stream`, `KerValue`,
   `RefValue`) and their equality (`Equal`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem

/-- For finite activations the kernel and the reference, both over the extended reals, end with equal results. -/
theorem algebraic : Cert.algebraic_KernelIdeal_ReferenceIdeal_pre_finite := by
  intro m g m' g' hpre hag
  refine ⟨fun c => KernelIdeal.Value.G4 m c, fun c => KernelIdeal.Value.G5 m c, fun c => KernelIdeal.Value.G6 m c,
    fun c => KernelIdeal.Value.G7 m c, KernelIdeal.Value.run m g, ?_⟩
  refine (θ_run _ _ _).mono ?_ (ReferenceIdeal.Value.run m' g')
  intro r hr c
  obtain ⟨h0, h1, h2, h3, k0, k1, k2, k3⟩ := hr c
  obtain ⟨a0, a1, a2, a3⟩ := hag c
  exact ⟨h0.trans (Equal.result0 m c _ _ _ _ a0.symm a1.symm a2.symm a3.symm (by rw [a0, a1, a2, a3]; exact hpre c)).symm,
    h1.trans (Equal.result1 m c _ _ _ _ a0.symm a1.symm a2.symm a3.symm (by rw [a0, a1, a2, a3]; exact hpre c)).symm,
    h2.trans (Equal.result2 m c _ _ _ _ a0.symm a1.symm a2.symm a3.symm (by rw [a0, a1, a2, a3]; exact hpre c)).symm,
    h3.trans (Equal.result3 m c _ _ _ _ a0.symm a1.symm a2.symm a3.symm (by rw [a0, a1, a2, a3]; exact hpre c)).symm,
    k0, k1, k2, k3⟩

/-- Everything the certificate claims. -/
theorem claim : Cert.Claim :=
  ⟨Cert.Kernel.Gen.facts, Cert.KernelIdeal.Gen.facts, Cert.ReferenceIdeal.Gen.facts, Cert.Reference.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    trivial,
    IdealRules.named_const.statement Cert.ReferenceIdeal.κ "ln_2" .f32 0x3F317218#32 ((Real.log 2 : ℝ) : EReal) rfl,
    algebraic⟩

end Cert.Proof

end
